-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![4, 1024, 256]⟩ ⟨3, ![4, 1024, 1024]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 256]⟩ ⟨3, ![4, 1024, 1024]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4x1024x256 : Shape := ⟨3, ![4, 1024, 256]⟩
abbrev S4x128 : Shape := ⟨2, ![4, 128]⟩
abbrev S128x256 : Shape := ⟨2, ![128, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .bf16) (main_arg1 : FVec F S4x128 .bf16) (main_arg2 : FVec F S128x256 .bf16) (main_arg3 : FVec F S128x256 .bf16) : IVec S4x1024x256 1 :=
  let main_v0 : FVec F S4x1024x256 .bf16 := Host.absf main_arg0
  let main_cst : FVec F S_ .bf16 := constant S_ .bf16 0x7F80#16
  let main_v1 : FVec F S4x1024x256 .bf16 := broadcastInDim S4x1024x256 ![] bcast_S_S4x1024x256 main_cst
  let main_v2 : IVec S4x1024x256 1 := cmpf .olt main_v0 main_v1
  main_v2
-- ==== Pre_finite_x_ReferenceIdeal.lean ====
abbrev S4x1024x1024 : Shape := ⟨3, ![4, 1024, 1024]⟩
abbrev S4x128 : Shape := ⟨2, ![4, 128]⟩
abbrev S128x1024 : Shape := ⟨2, ![128, 1024]⟩
abbrev S_ : Shape := ⟨0, ![]⟩

class Facts : Prop where
  bcast_S_S4x1024x1024 : S_.BroadcastsInDim S4x1024x1024 (![] : Fin 0 → Fin S4x1024x1024.rank)

variable [Facts]

def fn {F : FTy → Type} [FloatOps F] (main_arg0 : FVec F S4x1024x1024 .bf16) (main_arg1 : FVec F S4x128 .bf16) (main_arg2 : FVec F S128x1024 .bf16) (main_arg3 : FVec F S128x1024 .bf16) : IVec S4x1024x1024 1 :=
  let main_v0 : FVec F S4x1024x1024 .bf16 := Host.absf main_arg0
  let main_cst : FVec F S_ .bf16 := constant S_ .bf16 0x7F80#16
  let main_v1 : FVec F S4x1024x1024 .bf16 := broadcastInDim S4x1024x1024 ![] bcast_S_S4x1024x1024 main_cst
  let main_v2 : IVec S4x1024x1024 1 := cmpf .olt main_v0 main_v1
  main_v2
-- ==== Kernel.lean ====
abbrev S4x1024x256 : Shape := ⟨3, ![4, 1024, 256]⟩
abbrev S4x128 : Shape := ⟨2, ![4, 128]⟩
abbrev S128x256 : Shape := ⟨2, ![128, 256]⟩
abbrev S8x1024 : Shape := ⟨2, ![8, 1024]⟩
abbrev S3x8x1024 : Shape := ⟨3, ![3, 8, 1024]⟩
abbrev S3 : Shape := ⟨1, ![3]⟩
abbrev S4x1024 : Shape := ⟨2, ![4, 1024]⟩
abbrev S_ : Shape := ⟨0, ![]⟩
abbrev S1 : Shape := ⟨1, ![1]⟩
abbrev S1x8x1024 : Shape := ⟨3, ![1, 8, 1024]⟩
abbrev S4x256 : Shape := ⟨2, ![4, 256]⟩
abbrev S4x1024x1 : Shape := ⟨3, ![4, 1024, 1]⟩
abbrev S4x1x256 : Shape := ⟨3, ![4, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x1024x256, .bf16⟩
  | .hbm, ⟨1, _⟩ => ⟨S4x128, .bf16⟩
  | .hbm, ⟨2, _⟩ => ⟨S128x256, .bf16⟩
  | .hbm, ⟨3, _⟩ => ⟨S128x256, .bf16⟩
  | .hbm, ⟨4, _⟩ => ⟨S4x1024x256, .bf16⟩
  | .local _ .vmem, ⟨0, _⟩ => ⟨S4x1024x256, .bf16⟩
  | .local _ .vmem, ⟨1, _⟩ => ⟨S4x128, .bf16⟩
  | .local _ .vmem, ⟨2, _⟩ => ⟨S128x256, .bf16⟩
  | .local _ .vmem, ⟨3, _⟩ => ⟨S128x256, .bf16⟩
  | .local _ .vmem, ⟨4, _⟩ => ⟨S4x1024x256, .bf16⟩
  | .local _ .vmem, ⟨5, _⟩ => ⟨S8x1024, .f32⟩
  | .local _ .vmem, ⟨6, _⟩ => ⟨S3x8x1024, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v16 : BitVec 32 := Scalar.addi v2 c1_i32_6
  let c4_i32_7 : BitVec 32 := 4#32
  let c0_i32 : BitVec 32 := 0#32
  let v17 : BitVec 1 := Scalar.cmpi .eq c4_i32_7 c0_i32
  let c1_i32_8 : BitVec 32 := 1#32
  let v18 : BitVec 32 := Scalar.select v17 c1_i32_8 c4_i32_7
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_13 : BitVec 32 := 1#32
  let v27 : BitVec 32 := Scalar.muli v26 c1_i32_13
  let v28 : BitVec 32 := Scalar.addi c0_i32_14 v27
  v28.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v29 : BitVec 32 := Scalar.addi v2 c2_i32
  let c4_i32_15 : BitVec 32 := 4#32
  let c0_i32_16 : BitVec 32 := 0#32
  let v30 : BitVec 1 := Scalar.cmpi .eq c4_i32_15 c0_i32_16
  let c1_i32_17 : BitVec 32 := 1#32
  let v31 : BitVec 32 := Scalar.select v30 c1_i32_17 c4_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c1_i32_22 : BitVec 32 := 1#32
  let v40 : BitVec 32 := Scalar.muli v39 c1_i32_22
  let v41 : BitVec 32 := Scalar.addi c0_i32_23 v40
  v41.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v42 : BitVec 32 := Scalar.addi v2 c3_i32
  let c4_i32_24 : BitVec 32 := 4#32
  let c0_i32_25 : BitVec 32 := 0#32
  let v43 : BitVec 1 := Scalar.cmpi .eq c4_i32_24 c0_i32_25
  let c1_i32_26 : BitVec 32 := 1#32
  let v44 : BitVec 32 := Scalar.select v43 c1_i32_26 c4_i32_24
  let v45 : BitVec 32 := Scalar.remsi v42 v44
  let c0_i32_28 : BitVec 32 := 0#32
  let v47 : BitVec 1 := Scalar.cmpi .slt v45 c0_i32_28
  let c0_i32_29 : BitVec 32 := 0#32
  let v48 : BitVec 1 := Scalar.cmpi .slt v44 c0_i32_29
  let v49 : BitVec 1 := Scalar.xori v47 v48
  let c0_i32_27 : BitVec 32 := 0#32
  let v46 : BitVec 1 := Scalar.cmpi .ne v45 c0_i32_27
  let v50 : BitVec 1 := Scalar.andi v49 v46
  let v51 : BitVec 32 := Scalar.addi v45 v44
  let v52 : BitVec 32 := Scalar.select v50 v51 v45
  let c1_i32_31 : BitVec 32 := 1#32
  let v53 : BitVec 32 := Scalar.muli v52 c1_i32_31
  let v54 : BitVec 32 := Scalar.addi c0_i32_32 v53
  v54.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v55 : BitVec 32 := Scalar.addi v2 c1_i32_34
  let c4_i32_35 : BitVec 32 := 4#32
  let c0_i32_36 : BitVec 32 := 0#32
  let v56 : BitVec 1 := Scalar.cmpi .eq c4_i32_35 c0_i32_36
  let c1_i32_37 : BitVec 32 := 1#32
  let v57 : BitVec 32 := Scalar.select v56 c1_i32_37 c4_i32_35
  let v58 : BitVec 32 := Scalar.remsi v55 v57
  let c0_i32_39 : BitVec 32 := 0#32
  let v60 : BitVec 1 := Scalar.cmpi .slt v58 c0_i32_39
  let c0_i32_40 : BitVec 32 := 0#32
  let v61 : BitVec 1 := Scalar.cmpi .slt v57 c0_i32_40
  let v62 : BitVec 1 := Scalar.xori v60 v61
  let c0_i32_38 : BitVec 32 := 0#32
  let v59 : BitVec 1 := Scalar.cmpi .ne v58 c0_i32_38
  let v63 : BitVec 1 := Scalar.andi v62 v59
  let v64 : BitVec 32 := Scalar.addi v58 v57
  let v65 : BitVec 32 := Scalar.select v63 v64 v58
  let c1_i32_44 : BitVec 32 := 1#32
  let v66 : BitVec 32 := Scalar.muli v65 c1_i32_44
  let v67 : BitVec 32 := Scalar.addi c0_i32_45 v66
  v67.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v74 : BitVec 32 := Scalar.addi v2 c2_i32_48
  let c4_i32_49 : BitVec 32 := 4#32
  let c0_i32_50 : BitVec 32 := 0#32
  let v75 : BitVec 1 := Scalar.cmpi .eq c4_i32_49 c0_i32_50
  let c1_i32_51 : BitVec 32 := 1#32
  let v76 : BitVec 32 := Scalar.select v75 c1_i32_51 c4_i32_49
  let v77 : BitVec 32 := Scalar.remsi v74 v76
  let c0_i32_53 : BitVec 32 := 0#32
  let v79 : BitVec 1 := Scalar.cmpi .slt v77 c0_i32_53
  let c0_i32_54 : BitVec 32 := 0#32
  let v80 : BitVec 1 := Scalar.cmpi .slt v76 c0_i32_54
  let v81 : BitVec 1 := Scalar.xori v79 v80
  let c0_i32_52 : BitVec 32 := 0#32
  let v78 : BitVec 1 := Scalar.cmpi .ne v77 c0_i32_52
  let v82 : BitVec 1 := Scalar.andi v81 v78
  let v83 : BitVec 32 := Scalar.addi v77 v76
  let v84 : BitVec 32 := Scalar.select v82 v83 v77
  let c1_i32_58 : BitVec 32 := 1#32
  let v85 : BitVec 32 := Scalar.muli v84 c1_i32_58
  let v86 : BitVec 32 := Scalar.addi c0_i32_59 v85
  v86.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v93 : BitVec 32 := Scalar.addi v2 c3_i32_62
  let c4_i32_63 : BitVec 32 := 4#32
  let c0_i32_64 : BitVec 32 := 0#32
  let v94 : BitVec 1 := Scalar.cmpi .eq c4_i32_63 c0_i32_64
  let c1_i32_65 : BitVec 32 := 1#32
  let v95 : BitVec 32 := Scalar.select v94 c1_i32_65 c4_i32_63
  let v96 : BitVec 32 := Scalar.remsi v93 v95
  let c0_i32_67 : BitVec 32 := 0#32
  let v98 : BitVec 1 := Scalar.cmpi .slt v96 c0_i32_67
  let c0_i32_68 : BitVec 32 := 0#32
  let v99 : BitVec 1 := Scalar.cmpi .slt v95 c0_i32_68
  let v100 : BitVec 1 := Scalar.xori v98 v99
  let c0_i32_66 : BitVec 32 := 0#32
  let v97 : BitVec 1 := Scalar.cmpi .ne v96 c0_i32_66
  let v101 : BitVec 1 := Scalar.andi v100 v97
  let v102 : BitVec 32 := Scalar.addi v96 v95
  let v103 : BitVec 32 := Scalar.select v101 v102 v96
  let c1_i32_72 : BitVec 32 := 1#32
  let v104 : BitVec 32 := Scalar.muli v103 c1_i32_72
  let v105 : BitVec 32 := Scalar.addi c0_i32_73 v104
  v105.toNat
abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x1024 : Shape := ⟨3, ![4, 1024, 1024]⟩
abbrev S4x128 : Shape := ⟨2, ![4, 128]⟩
abbrev S128x1024 : Shape := ⟨2, ![128, 1024]⟩
abbrev S_ : Shape := ⟨0, ![]⟩
abbrev S4x1024 : Shape := ⟨2, ![4, 1024]⟩
abbrev S4x1024x1 : Shape := ⟨3, ![4, 1024, 1]⟩
abbrev S4x1x1024 : Shape := ⟨3, ![4, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x128, .bf16⟩
  | .hbm, ⟨2, _⟩ => ⟨S128x1024, .bf16⟩
  | .hbm, ⟨3, _⟩ => ⟨S128x1024, .bf16⟩
  | .hbm, ⟨4, _⟩ => ⟨S4x1024x1024, .f32⟩
  | .hbm, ⟨5, _⟩ => ⟨S_, .f32⟩
  | .hbm, ⟨6, _⟩ => ⟨S4x1024, .f32⟩
  | .hbm, ⟨7, _⟩ => ⟨S4x1024x1, .f32⟩
  | .hbm, ⟨8, _⟩ => ⟨S_, .f32⟩
  | .hbm, ⟨9, _⟩ => ⟨S4x1024x1, .f32⟩
  | .hbm, ⟨10, _⟩ => ⟨S4x1024x1, .f32⟩
  | .hbm, ⟨11, _⟩ => ⟨S4x1024x1, .bf16⟩
  | .hbm, ⟨12, _⟩ => ⟨S_, .i32⟩
  | .hbm, ⟨13, _⟩ => ⟨S4x1024x1024, .f32⟩
  | .hbm, ⟨14, _⟩ => ⟨S_, .f32⟩
  | .hbm, ⟨15, _⟩ => ⟨S4x1024, .f32⟩
  | .hbm, ⟨16, _⟩ => ⟨S4x1024x1, .f32⟩
  | .hbm, ⟨17, _⟩ => ⟨S_, .f32⟩
  | .hbm, ⟨18, _⟩ => ⟨S4x1024x1, .f32⟩
  | .hbm, ⟨19, _⟩ => ⟨S4x1024x1, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x1024, .f32⟩
  | .hbm, ⟨28, _⟩ => ⟨S4x1024x1, .f32⟩
  | .hbm, ⟨29, _⟩ => ⟨S4x1024x1, .f32⟩
  | .hbm, ⟨30, _⟩ => ⟨S4x1024x1, .f32⟩
  | .hbm, ⟨31, _⟩ => ⟨S4x1024x1, .bf16⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .bf16⟩
  | .hbm, ⟨36, _⟩ => ⟨S4x1024x1, .bf16⟩
  | .hbm, ⟨37, _⟩ => ⟨S4x1024x1, .bf16⟩
  | .hbm, ⟨38, _⟩ => ⟨S4x1024x1024, .bf16⟩
  | .hbm, ⟨39, _⟩ => ⟨S4x1024x1024, .bf16⟩
  | .hbm, ⟨40, _⟩ => ⟨S4x1024x1, .f32⟩
  | .hbm, ⟨41, _⟩ => ⟨S_, .f32⟩
  | .hbm, ⟨42, _⟩ => ⟨S4x1024x1, .f32⟩
  | .hbm, ⟨43, _⟩ => ⟨S4x1024x1, .f32⟩
  | .hbm, ⟨44, _⟩ => ⟨S4x1024x1, .bf16⟩
  | .hbm, ⟨45, _⟩ => ⟨S4x1024x1, .bf16⟩
  | .hbm, ⟨46, _⟩ => ⟨S4x1024x1024, .bf16⟩
  | .hbm, ⟨47, _⟩ => ⟨S4x1024x1024, .bf16⟩
  | .hbm, ⟨48, _⟩ => ⟨S4x1024, .f32⟩
  | .hbm, ⟨49, _⟩ => ⟨S4x1024, .bf16⟩
  | .hbm, ⟨50, _⟩ => ⟨S4x1024, .f32⟩
  | .hbm, ⟨51, _⟩ => ⟨S4x1024, .bf16⟩
  | .hbm, ⟨52, _⟩ => ⟨S4x1x1024, .bf16⟩
  | .hbm, ⟨53, _⟩ => ⟨S_, .bf16⟩
  | .hbm, ⟨54, _⟩ => ⟨S4x1x1024, .bf16⟩
  | .hbm, ⟨55, _⟩ => ⟨S4x1x1024, .bf16⟩
  | .hbm, ⟨56, _⟩ => ⟨S4x1024x1024, .bf16⟩
  | .hbm, ⟨57, _⟩ => ⟨S4x1024x1024, .bf16⟩
  | .hbm, ⟨58, _⟩ => ⟨S4x1x1024, .bf16⟩
  | .hbm, ⟨59, _⟩ => ⟨S4x1024x1024, .bf16⟩
  | .hbm, ⟨60, _⟩ => ⟨S4x1024x1024, .bf16⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_call0_cst_0 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_cst_1 : Ref sig .tc := ⟨.hbm, 24, rfl⟩
abbrev main_call0_v9 : Ref sig .tc := ⟨.hbm, 25, rfl⟩
abbrev main_call0_cst_2 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst_3 : Ref sig .tc := ⟨.hbm, 32, rfl⟩
abbrev main_call0_v15 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]
-- ==== Proof.KernelIdeal.Protocol.lean ====
/-
# The exchange of row statistics between the four devices: who hands what to whom

Every device puts the row sums of its block of `x`, and the row sums of the squares, into its buffer of statistics
(rows 0–3 and rows 4–7). It then tells each of the other three that it is ready, waits for the three of them, and copies
its statistics to each: the device `k + 1` places further on the ring receives them in slot `k` of its landing buffer.

This module states that exchange as a schedule of one round. Every device has seven counters:

* the barrier, raised once by each of the other three. The raise that comes from the device `k + 1` places further on
  hands over slot `k` of that device's landing buffer, the slot this device's copy number `k` is written to;
* one departure counter for each of its three copies, which hands back the part of the statistics lent to that copy;
* one arrival counter for each of its three slots, which hands over the slot, holding the sender's statistics.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueIdxCore
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's own, and the exchange's, whose duties are numbered 0, 1, 2 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## The ring of devices -/

set_option backward.proofsInPublic true in
/-- The device `k + 1` places further on. -/
def ahead (k : Fin 3) (c : Dev nD) : Dev nD := ⟨(c.val + (k.val + 1)) % 4, Nat.mod_lt _ (by decide)⟩

/-- Going the other way round: `k + 1` places back is `3 - k` places on. -/
abbrev opp (k : Fin 3) : Fin 3 := k.rev

theorem ahead_opp (k : Fin 3) (c : Dev nD) : ahead k (ahead (opp k) c) = c := by revert k c; decide
theorem opp_ahead (k : Fin 3) (c : Dev nD) : ahead (opp k) (ahead k c) = c := by revert k c; decide

def turn (k : Fin 3) : Dev nD ≃ Dev nD := ⟨ahead k, ahead (opp k), opp_ahead k, ahead_opp k⟩

/-- The devices the kernel names: its three signals and its three copies, in order. -/
theorem dev1_eq (c : Dev nD) : (⟨k0_dev1 c, k0_dev1_lt c⟩ : Dev nD) = ahead 0 c := by revert c; decide +kernel
theorem dev2_eq (c : Dev nD) : (⟨k0_dev2 c, k0_dev2_lt c⟩ : Dev nD) = ahead 1 c := by revert c; decide +kernel
theorem dev3_eq (c : Dev nD) : (⟨k0_dev3 c, k0_dev3_lt c⟩ : Dev nD) = ahead 2 c := by revert c; decide +kernel
theorem dev4_eq (c : Dev nD) : (⟨k0_dev4 c, k0_dev4_lt c⟩ : Dev nD) = ahead 0 c := by revert c; decide +kernel
theorem dev5_eq (c : Dev nD) : (⟨k0_dev5 c, k0_dev5_lt c⟩ : Dev nD) = ahead 1 c := by revert c; decide +kernel
theorem dev6_eq (c : Dev nD) : (⟨k0_dev6 c, k0_dev6_lt c⟩ : Dev nD) = ahead 2 c := by revert c; decide +kernel

/-! ## Buffers, slots and counters -/

abbrev xM : Memref sig .tc .vmem S4x1024x256 .bf16 := Memref.whole cc0_stg0_0
abbrev tM : Memref sig .tc .vmem S4x128 .bf16 := Memref.whole cc0_stg1_0
abbrev gM : Memref sig .tc .vmem S128x256 .bf16 := Memref.whole cc0_stg2_0
abbrev hM : Memref sig .tc .vmem S128x256 .bf16 := Memref.whole cc0_stg3_0
abbrev oM : Memref sig .tc .vmem S4x1024x256 .bf16 := Memref.whole cc0_stg4_0
/-- The statistics, and the landing buffer with its three slots. -/
abbrev sM : Memref sig .tc .vmem S8x1024 .f32 := Memref.whole cc0_scratch0
abbrev lM : Memref sig .tc .vmem S3x8x1024 .f32 := Memref.whole cc0_scratch1

theorem slot_inb : ∀ (k : Fin 3) (a : Fin 3), (![k.val, 0, 0] : Fin 3 → ℕ) a + S1x8x1024.size a ≤ S3x8x1024.size a := by decide
/-- Slot `k` as a rectangle of the landing buffer, and as a buffer of the statistics' shape. -/
abbrev slotRect (k : Fin 3) : Rect S3x8x1024 := Rect.unit (s := S3x8x1024) ![k.val, 0, 0] S1x8x1024.size (slot_inb k)
abbrev slot (k : Fin 3) : Memref sig .tc .vmem S8x1024 .f32 :=
  (lM.slice (slotRect k) (fun _ => rfl)).squeeze S8x1024 squeezes_S1x8x1024_S8x1024

/-- The runtime's barrier counter, and the departure and arrival counters. -/
abbrev barS : Sem sig := (SemArray.scalar (sig.barrier 0 rfl) : Sems sig S_).sem
abbrev outS (k : Fin 3) : DmaSem sig := ⟨5 + k.val, Nat.lt_of_lt_of_le (Nat.add_lt_add_left k.isLt 5) (by decide)⟩
abbrev inS (k : Fin 3) : DmaSem sig := ⟨8 + k.val, Nat.lt_of_lt_of_le (Nat.add_lt_add_left k.isLt 8) (by decide)⟩

/-- The kernel reaches them by slicing two arrays of three counters. -/
theorem out0 : ((cc0_scratch2.slice (Rect.unit (s := S3) ![0] S1.size inb_S3_S1_0)).squeeze S_ squeezes_S1_S_).sem = outS 0 := rfl
theorem out1 : ((cc0_scratch2.slice (Rect.unit (s := S3) ![1] S1.size inb_S3_S1_1)).squeeze S_ squeezes_S1_S_).sem = outS 1 := rfl
theorem out2 : ((cc0_scratch2.slice (Rect.unit (s := S3) ![2] S1.size inb_S3_S1_2)).squeeze S_ squeezes_S1_S_).sem = outS 2 := rfl
theorem in0 : ((cc0_scratch3.slice (Rect.unit (s := S3) ![0] S1.size inb_S3_S1_0)).squeeze S_ squeezes_S1_S_).sem = inS 0 := rfl
theorem in1 : ((cc0_scratch3.slice (Rect.unit (s := S3) ![1] S1.size inb_S3_S1_1)).squeeze S_ squeezes_S1_S_).sem = inS 1 := rfl
theorem in2 : ((cc0_scratch3.slice (Rect.unit (s := S3) ![2] S1.size inb_S3_S1_2)).squeeze S_ squeezes_S1_S_).sem = inS 2 := rfl

abbrev bar (c : Dev nD) : GSem nD τ sig := ((c : Thread nD τ), .reg barS)
abbrev dep (k : Fin 3) (c : Dev nD) : GSem nD τ sig := ((c : Thread nD τ), .dma (outS k))
abbrev arr (k : Fin 3) (c : Dev nD) : GSem nD τ sig := ((c : Thread nD τ), .dma (inS k))

theorem out_inj {j k : Fin 3} (h : (SemLoc.dma (outS j) : SemLoc sig) = .dma (outS k)) : j = k := by revert j k; decide
theorem in_inj {j k : Fin 3} (h : (SemLoc.dma (inS j) : SemLoc sig) = .dma (inS k)) : j = k := by revert j k; decide
theorem out_ne_in (j k : Fin 3) : (SemLoc.dma (outS j) : SemLoc sig) ≠ .dma (inS k) := by revert j k; decide
theorem in_ne_out (j k : Fin 3) : (SemLoc.dma (inS j) : SemLoc sig) ≠ .dma (outS k) := by revert j k; decide
theorem dma_ne_bar (q : DmaSem sig) : (SemLoc.dma q : SemLoc sig) ≠ .reg barS := fun h => by cases h

/-- The kernel's own six counters, and all seven of the exchange. -/
abbrev osem : Fin 6 → SemLoc sig :=
  fun | 0 => .dma (outS 0) | 1 => .dma (outS 1) | 2 => .dma (outS 2) | 3 => .dma (inS 0) | 4 => .dma (inS 1) | 5 => .dma (inS 2)
abbrev csem : Fin 7 → SemLoc sig :=
  fun | 0 => .reg barS | 1 => .dma (outS 0) | 2 => .dma (outS 1) | 3 => .dma (outS 2) | 4 => .dma (inS 0) | 5 => .dma (inS 1) | 6 => .dma (inS 2)
abbrev kcell (ck : Dev nD × Fin 7) : GSem nD τ sig := ((ck.1 : Thread nD τ), csem ck.2)

/-- The position of departure counter `k` and of arrival counter `k` among the seven. -/
abbrev di (k : Fin 3) : Fin 7 := ⟨1 + k.val, by omega⟩
abbrev ai (k : Fin 3) : Fin 7 := ⟨4 + k.val, by omega⟩
theorem kcell_bar (c : Dev nD) : kcell (c, 0) = bar c := rfl
theorem kcell_dep (k : Fin 3) (c : Dev nD) : kcell (c, di k) = dep k c := by fin_cases k <;> rfl
theorem kcell_arr (k : Fin 3) (c : Dev nD) : kcell (c, ai k) = arr k c := by fin_cases k <;> rfl

/-- What one copy adds to its counters. -/
abbrev N : ℕ := (sM : Memref sig .tc .vmem S8x1024 .f32).view.dmaCredit
theorem N_pos : 0 < N := View.dmaCredit_pos _ (by decide)

/-! ## Contents -/

def xA (c : Dev nD) : (cc0_stg0_0 : Ref sig .tc).ty.Contents (Elt F) :=
  (win0_0.blk (0 : Fin 1)).view.read (Elt F) ((s₀ m ρ).mem ((c : Thread nD τ).loc main_arg0))
def tA (c : Dev nD) : (cc0_stg1_0 : Ref sig .tc).ty.Contents (Elt F) :=
  (win0_1.blk (0 : Fin 1)).view.read (Elt F) ((s₀ m ρ).mem ((c : Thread nD τ).loc main_arg1))
def gA (c : Dev nD) : (cc0_stg2_0 : Ref sig .tc).ty.Contents (Elt F) :=
  (win0_2.blk (0 : Fin 1)).view.read (Elt F) ((s₀ m ρ).mem ((c : Thread nD τ).loc main_arg2))
def hA (c : Dev nD) : (cc0_stg3_0 : Ref sig .tc).ty.Contents (Elt F) :=
  (win0_3.blk (0 : Fin 1)).view.read (Elt F) ((s₀ m ρ).mem ((c : Thread nD τ).loc main_arg3))

/-- The statistics of a block `x`: row sums in rows 0–3, row sums of squares in rows 4–7. -/
def statsOf (x : Vec F S4x1024x256 .bf16) : (cc0_scratch0 : Ref sig .tc).ty.Contents (Elt F) := fun (i : S8x1024.Idx) =>
  if h : (i 0).val < 4 then k0_pay2 x (ValueIdx.ix2 (⟨(i 0).val, h⟩ : Fin 4) (i 1 : Fin 1024))
  else k0_pay3 x (ValueIdx.ix2 (⟨(i 0).val - 4, by have h8 : (i 0).val < 8 := (i 0).isLt; omega⟩ : Fin 4) (i 1 : Fin 1024))

/-- The statistics device `c` computes. -/
def stats (c : Dev nD) : (cc0_scratch0 : Ref sig .tc).ty.Contents (Elt F) := statsOf (xA m ρ c)

abbrev sumRows : Rect S8x1024 := Rect.unit (s := S8x1024) ![0, 0] S4x1024.size inb_S8x1024_S4x1024_0_0
abbrev sqRows : Rect S8x1024 := Rect.unit (s := S8x1024) ![4, 0] S4x1024.size inb_S8x1024_S4x1024_4_0

/-- Storing the two halves leaves exactly the statistics, whatever the buffer held. -/
theorem stats_stored (f : (cc0_scratch0 : Ref sig .tc).ty.Contents (Elt F)) (x : Vec F S4x1024x256 .bf16) :
    (sM.access sqRows : View sig .tc _ _ _).write (Elt F) ((sM.access sumRows : View sig .tc _ _ _).write (Elt F) f (k0_pay2 x) Finset.univ) (k0_pay3 x) Finset.univ
      = statsOf x := by
  funext i
  by_cases h : (i (0 : Fin 2)).val < 4
  · have hn : i ∉ (sM.access sqRows : View sig .tc _ _ _).setOn Finset.univ := by
      intro hi
      obtain ⟨z, -, hz⟩ := Finset.mem_map.mp hi
      have h0 : (i (0 : Fin 2)).val = 4 + 1 * (z (0 : Fin 2)).val := by rw [← hz]; rfl
      omega
    rw [View.write_of_not_mem _ _ _ hn]
    have hi : i = (sM.access sumRows : View sig .tc _ _ _).emb (ValueIdx.ix2 (⟨(i (0 : Fin 2)).val, h⟩ : Fin 4) (i (1 : Fin 2) : Fin 1024)) := by
      funext a; fin_cases a <;> apply Fin.ext
      · show (i (0 : Fin 2)).val = 0 + 1 * (i (0 : Fin 2)).val; omega
      · show (i (1 : Fin 2)).val = 0 + 1 * (i (1 : Fin 2)).val; omega
    conv_lhs => rw [hi]
    rw [View.write_emb_of_mem _ _ (Finset.mem_univ _)]
    unfold statsOf; rw [dif_pos h]; rfl
  · have hlt : (i (0 : Fin 2)).val < 8 := (i (0 : Fin 2)).isLt
    have hi : i = (sM.access sqRows : View sig .tc _ _ _).emb (ValueIdx.ix2 (⟨(i (0 : Fin 2)).val - 4, by omega⟩ : Fin 4) (i (1 : Fin 2) : Fin 1024)) := by
      funext a; fin_cases a <;> apply Fin.ext
      · show (i (0 : Fin 2)).val = 4 + 1 * ((i (0 : Fin 2)).val - 4); omega
      · show (i (1 : Fin 2)).val = 0 + 1 * (i (1 : Fin 2)).val; omega
    conv_lhs => rw [hi]
    rw [View.write_emb_of_mem _ _ (Finset.mem_univ _)]
    unfold statsOf; rw [dif_neg h]; rfl

/-- The landing buffer's contents once the statistics of `c'` are in its slot `k` (the rest of it is never read). -/
def landed (k : Fin 3) (c' : Dev nD) : (cc0_scratch1 : Ref sig .tc).ty.Contents (Elt F) :=
  (slot k).view.write (Elt F) (fun (_ : S3x8x1024.Idx) => stats m ρ c' (ValueIdx.ix2 (0 : Fin 8) (0 : Fin 1024))) (stats m ρ c') Finset.univ

/-- Slot `k` of device `c`'s landing buffer, at contents `f`; device `c`'s statistics, at share `q`. -/
def slotPts (k : Fin 3) (c : Dev nD) (f : Buf (Elt F) ((slot k).view.loc (c : Thread nD τ))) : sProp 𝕄 :=
  (slot k).view.loc (c : Thread nD τ) ↦[(slot k).view.set]{fullShare} f
def statPts (q : PosShare TreeShare) (c : Dev nD) : sProp 𝕄 :=
  (sM : Memref sig .tc .vmem S8x1024 .f32).view.loc (c : Thread nD τ) ↦[(sM : Memref sig .tc .vmem S8x1024 .f32).view.set]{q} stats m ρ c

/-- The share of the statistics lent to copy `k`. -/
def lent : Fin 3 → PosShare TreeShare := fun | 0 => fullShare.left | 1 => fullShare.right.left | 2 => fullShare.right.right

omit [FloatOps F] in
instance slotPts_storable (k : Fin 3) (c : Dev nD) (f) : BI.Storable (upEmb : UEmb _ 𝕄) (slotPts (F := F) k c f) := by unfold slotPts; infer_instance
instance statPts_storable (q : PosShare TreeShare) (c : Dev nD) : BI.Storable (upEmb : UEmb _ 𝕄) (statPts (F := F) m ρ q c) := by
  unfold statPts; infer_instance

theorem statPts_eq (q : PosShare TreeShare) (c : Dev nD) :
    statPts m ρ q c = (((c : Thread nD τ).loc cc0_scratch0) ↦{q} stats m ρ c : sProp 𝕄) := by
  unfold statPts; rw [View.set_whole]

/-- The statistics held whole are the three lent parts. -/
theorem stat_parts (c : Dev nD) :
    (((c : Thread nD τ).loc cc0_scratch0) ↦{fullShare} stats m ρ c : sProp 𝕄)
      ⊣⊢ iprop(statPts m ρ (lent 0) c ∗ statPts m ρ (lent 1) c ∗ statPts m ρ (lent 2) c) := by
  rw [statPts_eq, statPts_eq, statPts_eq]
  constructor
  · refine (pointsTo_share (PosShare.mem_left_op_right fullShare)).1.trans (sep_mono_right ?_)
    exact (pointsTo_share (PosShare.mem_left_op_right fullShare.right)).1
  · refine (sep_mono_right ?_).trans (pointsTo_share (PosShare.mem_left_op_right fullShare)).2
    exact (pointsTo_share (PosShare.mem_left_op_right fullShare.right)).2

omit [FloatOps F] in
theorem slotPts_eq (k : Fin 3) (c : Dev nD) (f : Buf (Elt F) ((c : Thread nD τ).loc cc0_scratch1)) :
    slotPts k c f = (((c : Thread nD τ).loc cc0_scratch1) ↦[(slotRect k).set]{fullShare} f : sProp 𝕄) := by
  unfold slotPts
  have h : (slot k).view.set = (slotRect k).set := (View.set_reshape _ _).trans (View.set_slice_whole _ _)
  rw [h]

theorem slots_disjoint (j k : Fin 3) (h : j ≠ k) : Disjoint (slotRect j).set (slotRect k).set :=
  Ring.lead_disjoint (s := S3x8x1024) (0 : Fin 3) 1 (fun k : Fin 3 => (![k.val, 0, 0] : Fin 3 → ℕ)) S1x8x1024.size slot_inb
    (fun k => (Nat.one_mul _).symm) rfl j k h
theorem slots_cover : (Finset.univ : Finset (Fin 3)).biUnion (fun k => (slotRect k).set) = Finset.univ :=
  Ring.lead_cover (s := S3x8x1024) (0 : Fin 3) 1 (fun k : Fin 3 => (![k.val, 0, 0] : Fin 3 → ℕ)) S1x8x1024.size slot_inb
    (fun k => (Nat.one_mul _).symm) (by decide) rfl (by decide) rfl

/-- The elements of slot `k` among those of the landing buffer. -/
def slotSet (c : Dev nD) (k : Fin 3) : Finset (Idx ((c : Thread nD τ).loc cc0_scratch1)) := (slotRect k).set

omit [FloatOps F] in
theorem slotPts_set (k : Fin 3) (c : Dev nD) (f : Buf (Elt F) ((c : Thread nD τ).loc cc0_scratch1)) :
    slotPts k c f = (((c : Thread nD τ).loc cc0_scratch1) ↦[slotSet c k]{fullShare} f : sProp 𝕄) := slotPts_eq k c f

omit [FloatOps F] in
/-- The landing buffer is its three slots, -/
theorem slots_split (c : Dev nD) :
    iprop(∃ f : Buf (Elt F) ((c : Thread nD τ).loc cc0_scratch1), ((c : Thread nD τ).loc cc0_scratch1) ↦{fullShare} f)
      ⊢ (iprop((∃ f, slotPts 0 c f) ∗ (∃ f, slotPts 1 c f) ∗ ∃ f, slotPts 2 c f) : sProp 𝕄) := by
  refine Ring.slots3_split (ℓ := (c : Thread nD τ).loc cc0_scratch1) (q := fullShare) (slotSet c) slots_disjoint slots_cover
    (slotPts 0 c) (slotPts 1 c) (slotPts 2 c) ?_ ?_ ?_
  · exact fun f => slotPts_set 0 c f
  · exact fun f => slotPts_set 1 c f
  · exact fun f => slotPts_set 2 c f
omit [FloatOps F] in
/-- and the three slots make up the landing buffer. -/
theorem slots_join (c : Dev nD) :
    iprop((∃ f, slotPts 0 c f) ∗ (∃ f, slotPts 1 c f) ∗ ∃ f, slotPts 2 c f)
      ⊢ (iprop(∃ f : Buf (Elt F) ((c : Thread nD τ).loc cc0_scratch1), ((c : Thread nD τ).loc cc0_scratch1) ↦{fullShare} f) : sProp 𝕄) := by
  refine Ring.slots3_join (ℓ := (c : Thread nD τ).loc cc0_scratch1) (q := fullShare) (slotSet c) slots_disjoint slots_cover
    (slotPts 0 c) (slotPts 1 c) (slotPts 2 c) ?_ ?_ ?_
  · exact fun f => slotPts_set 0 c f
  · exact fun f => slotPts_set 1 c f
  · exact fun f => slotPts_set 2 c f

/-- A copy of the statistics of `c'` into slot `k` leaves the slot as `landed` says, whatever it held. -/
theorem slotPts_landed (k : Fin 3) (c c' : Dev nD) (fd : Buf (Elt F) ((slot k).view.loc (c : Thread nD τ))) :
    slotPts k c ((slot k).view.write (Elt F) fd ((sM : Memref sig .tc .vmem S8x1024 .f32).view.read (Elt F) (stats m ρ c')) Finset.univ)
      = (slotPts k c (landed m ρ k c') : sProp 𝕄) := by
  unfold slotPts
  refine pointsTo_congr fun i hi => ?_
  obtain ⟨z, -, rfl⟩ := Finset.mem_map.mp hi
  unfold landed
  rw [View.write_emb_of_mem _ _ (Finset.mem_univ _), View.write_emb_of_mem _ _ (Finset.mem_univ _)]
  rfl

/-! ## The schedule -/

/-- What device `c` receives with the barrier raise of the device `k + 1` places on: that device's slot `k`. -/
def barPay (c : Dev nD) (k : Fin 3) : sProp 𝕄 := iprop(∃ f, slotPts k (ahead k c) f)

abbrev IsBar (g : GSem nD τ sig) : Prop := g.1.2 = .tc ∧ g.2 = .reg barS
abbrev IsDep (g : GSem nD τ sig) (k : Fin 3) : Prop := g.2 = .dma (outS k)
abbrev IsArr (g : GSem nD τ sig) (k : Fin 3) : Prop := g.2 = .dma (inS k)
abbrev IsCopy (g : GSem nD τ sig) : Prop := g.1.2 = .tc ∧ ((∃ k, IsDep g k) ∨ ∃ k, IsArr g k)

/-- One round. A barrier has the duties 0, 1, 2 of one unit each, named after the slot they hand over; a departure or arrival
    counter has the duty 0 of one copy's credit. -/
def plan : Rounds.Schedule (GSem nD τ sig) (Fin 3) 𝕄 where
  duties g r := if r = 0 ∧ IsBar g then Finset.univ else if r = 0 ∧ IsCopy g then {0} else ∅
  unitless _ := False
  amount g _ _ := if g.2 = .reg barS then 1 else N
  payload g _ d :=
    if g.2 = .reg barS then barPay g.1.1 d
    else if IsDep g 0 then statPts m ρ (lent 0) g.1.1
    else if IsDep g 1 then statPts m ρ (lent 1) g.1.1
    else if IsDep g 2 then statPts m ρ (lent 2) g.1.1
    else if IsArr g 0 then slotPts 0 g.1.1 (landed m ρ 0 (ahead (opp 0) g.1.1))
    else if IsArr g 1 then slotPts 1 g.1.1 (landed m ρ 1 (ahead (opp 1) g.1.1))
    else if IsArr g 2 then slotPts 2 g.1.1 (landed m ρ 2 (ahead (opp 2) g.1.1))
    else iprop(emp)
  amount_pos g _ _ _ := by
    by_cases h : g.2 = .reg barS
    · rw [if_pos h]; exact Nat.one_pos
    · rw [if_neg h]; exact N_pos

instance plan_storable (g : GSem nD τ sig) (r : ℕ) (d : Fin 3) :
    BI.Storable (upEmb : UEmb _ 𝕄) ((plan (F := F) m ρ).payload g r d) := by
  unfold plan; dsimp only
  unfold barPay
  (repeat' split) <;> infer_instance

section Sched
variable (c : Dev nD)

theorem not_bar (q : DmaSem sig) : ¬ IsBar ((c : Thread nD τ), .dma q) := fun h => dma_ne_bar q h.2

theorem duties_bar : (plan (F := F) m ρ).duties (bar c) 0 = Finset.univ := by dsimp only [plan]; exact if_pos ⟨rfl, rfl, rfl⟩
theorem duties_dep (k : Fin 3) : (plan (F := F) m ρ).duties (dep k c) 0 = {0} := by
  dsimp only [plan]; rw [if_neg (fun h => not_bar c _ h.2)]; exact if_pos ⟨rfl, rfl, .inl ⟨k, rfl⟩⟩
theorem duties_arr (k : Fin 3) : (plan (F := F) m ρ).duties (arr k c) 0 = {0} := by
  dsimp only [plan]; rw [if_neg (fun h => not_bar c _ h.2)]; exact if_pos ⟨rfl, rfl, .inr ⟨k, rfl⟩⟩
theorem duties_later (g : GSem nD τ sig) : ∀ r, 1 ≤ r → (plan (F := F) m ρ).duties g r = ∅ :=
  fun r hr => by dsimp only [plan]; rw [if_neg fun h => by omega, if_neg fun h => by omega]

theorem amount_bar (d : Fin 3) : (plan (F := F) m ρ).amount (bar c) 0 d = 1 := by dsimp only [plan]; exact if_pos rfl
theorem amount_dma (q : DmaSem sig) (d : Fin 3) : (plan (F := F) m ρ).amount ((c : Thread nD τ), .dma q) 0 d = N := by
  dsimp only [plan]; exact if_neg (dma_ne_bar q)

theorem expect_bar : (plan (F := F) m ρ).expect (bar c) 0 = 3 := by
  unfold Schedule.expect Schedule.amountOf
  rw [duties_bar, Finset.sum_congr rfl fun d _ => amount_bar m ρ c d, Finset.sum_const, Finset.card_univ, Fintype.card_fin, smul_eq_mul]
theorem expect_dma (q : DmaSem sig) (hq : (plan (F := F) m ρ).duties ((c : Thread nD τ), .dma q) 0 = {0}) :
    (plan (F := F) m ρ).expect ((c : Thread nD τ), .dma q) 0 = N := by
  unfold Schedule.expect Schedule.amountOf; rw [hq, Finset.sum_singleton, amount_dma]

theorem payload_bar (d : Fin 3) : (plan (F := F) m ρ).payload (bar c) 0 d = barPay c d := by dsimp only [plan]; exact if_pos rfl
theorem payload_dep (k d : Fin 3) : (plan (F := F) m ρ).payload (dep k c) 0 d = statPts m ρ (lent k) c := by
  dsimp only [plan]; rw [if_neg (dma_ne_bar _)]
  fin_cases k
  · exact if_pos rfl
  · rw [if_neg (fun h => absurd (out_inj h) (by decide))]; exact if_pos rfl
  · rw [if_neg (fun h => absurd (out_inj h) (by decide)), if_neg (fun h => absurd (out_inj h) (by decide))]; exact if_pos rfl
theorem payload_arr (k d : Fin 3) : (plan (F := F) m ρ).payload (arr k c) 0 d = slotPts k c (landed m ρ k (ahead (opp k) c)) := by
  dsimp only [plan]
  rw [if_neg (dma_ne_bar _), if_neg (in_ne_out _ _), if_neg (in_ne_out _ _), if_neg (in_ne_out _ _)]
  fin_cases k
  · exact if_pos rfl
  · rw [if_neg (fun h => absurd (in_inj h) (by decide))]; exact if_pos rfl
  · rw [if_neg (fun h => absurd (in_inj h) (by decide)), if_neg (fun h => absurd (in_inj h) (by decide))]; exact if_pos rfl

/-- All that a barrier hands over: the three slots this device copies into. -/
theorem rest_bar : bigSep ((plan (F := F) m ρ).duties (bar c) 0 \ ∅) (fun d => (plan (F := F) m ρ).payload (bar c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_dma (q : DmaSem sig) (hq : (plan (F := F) m ρ).duties ((c : Thread nD τ), .dma q) 0 = {0}) :
    bigSep ((plan (F := F) m ρ).duties ((c : Thread nD τ), .dma q) 0 \ ∅) (fun d => (plan (F := F) m ρ).payload ((c : Thread nD τ), .dma q) 0 d)
      = (plan (F := F) m ρ).payload ((c : Thread nD τ), .dma q) 0 0 := by
  rw [Finset.sdiff_empty, hq, bigSep_singleton]

end Sched

/-! ## What each device owes, and the order of the waits -/

/-- What is still owed before the third, second and first copy, -/
def C₂ (c : Dev nD) : CellTallies nD τ sig Unit := tallyAt (arr 2 (ahead 2 c)) () N
def C₁ (c : Dev nD) : CellTallies nD τ sig Unit := C₂ c + tallyAt (arr 1 (ahead 1 c)) () N
def C₀ (c : Dev nD) : CellTallies nD τ sig Unit := C₁ c + tallyAt (arr 0 (ahead 0 c)) () N
/-- and before the third, second and first signal: all that a device owes at launch. -/
def B₂ (c : Dev nD) : CellTallies nD τ sig Unit := C₀ c + tallyAt (bar (ahead 2 c)) () 1
def B₁ (c : Dev nD) : CellTallies nD τ sig Unit := B₂ c + tallyAt (bar (ahead 1 c)) () 1
def O₀ (c : Dev nD) : CellTallies nD τ sig Unit := B₁ c + tallyAt (bar (ahead 0 c)) () 1

def L (g : GSem nD τ sig) : Finset Unit := if g.1.2 = .tc then {()} else ∅
/-- Barriers come at level 1, arrivals at 2, everything else at 0. -/
def lv (g : GSem nD τ sig) (_ : Unit) : ℕ := if g.2 = .reg barS then 1 else if ∃ k, IsArr g k then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := if_pos rfl
theorem lv_arr (k : Fin 3) (c : Dev nD) (u : Unit) : lv (arr k c) u = 2 := by
  unfold lv; rw [if_neg (dma_ne_bar _)]; exact if_pos ⟨k, rfl⟩

theorem C₀_apply (c : Dev nD) (g : GSem nD τ sig) (u : Unit) :
    C₀ c g u = (if g = arr 2 (ahead 2 c) then N else 0) + (if g = arr 1 (ahead 1 c) then N else 0) + (if g = arr 0 (ahead 0 c) then N else 0) := by
  unfold C₀ C₁ C₂
  simp only [Pi.add_apply, Finsupp.add_apply, tallyAt_apply, and_true]

theorem O₀_apply (c : Dev nD) (g : GSem nD τ sig) (u : Unit) :
    O₀ c g u = C₀ c g u + (if g = bar (ahead 2 c) then 1 else 0) + (if g = bar (ahead 1 c) then 1 else 0) + (if g = bar (ahead 0 c) then 1 else 0) := by
  unfold O₀ B₁ B₂
  simp only [Pi.add_apply, Finsupp.add_apply, tallyAt_apply, and_true]

theorem C₀_pos {c : Dev nD} {g : GSem nD τ sig} {u : Unit} (h : 0 < C₀ c g u) : ∃ k, g = arr k (ahead k c) := by
  by_contra hn
  rw [not_exists] at hn
  rw [C₀_apply, if_neg (hn 2), if_neg (hn 1), if_neg (hn 0)] at h
  exact Nat.lt_irrefl 0 h

theorem O₀_pos {c : Dev nD} {g : GSem nD τ sig} {u : Unit} (h : 0 < O₀ c g u) :
    (∃ k, g = arr k (ahead k c)) ∨ ∃ k, g = bar (ahead k c) := by
  by_contra hn
  rw [not_or, not_exists, not_exists] at hn
  rw [O₀_apply, if_neg (hn.2 2), if_neg (hn.2 1), if_neg (hn.2 0)] at h
  exact absurd (C₀_pos h) (by rw [not_exists]; exact hn.1)

omit [FloatOps F] in
/-- A counter of the pipeline may be waited on whatever the device owes of the exchange. -/
theorem mayWait_stage (c : Dev nD) (q : DmaSem sig) (hq : ∀ k, SemLoc.dma q ≠ .dma (inS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; unfold lv
        rw [if_neg (dma_ne_bar _), if_neg (fun ⟨k, hk⟩ => hq k hk)])
      (fun g u hg => by
        rcases O₀_pos hg with ⟨k, rfl⟩ | ⟨k, rfl⟩
        · rw [lv_arr]; decide
        · rw [lv_bar]; decide)
  · rw [MayWait_zero]; iintro -; iempintro

omit [FloatOps F] in
/-- At its barrier a device owes its three copies only, which arrive at a higher level. -/
theorem mayWait_bar (c : Dev nD) : (levAts L lv : sProp 𝕄) ⊢ MayWait (c : Thread nD τ) (.reg barS) () (C₀ c) :=
  MayOwe.of_cut (L := L) (lev := lv) 1 (fun p hp => by rw [Finset.mem_singleton.mp hp, L_tc]; exact Finset.mem_singleton_self _)
    (fun g u hg => by obtain ⟨k, rfl⟩ := C₀_pos hg; exact Finset.mem_singleton_self _)
    (fun p hp => by rw [Finset.mem_singleton.mp hp]; exact Nat.le_of_eq (lv_bar c _))
    (fun g u hg => by obtain ⟨k, rfl⟩ := C₀_pos hg; rw [lv_arr]; decide)

/-! ## What a device starts from -/

/-- The invariants of all the counters, under the names `K`, and that every counter is at its round. -/
def records (K : Dev nD × Fin 7 → ℕ) : sProp 𝕄 :=
  iprop((bigSep Finset.univ fun ck : Dev nD × Fin 7 => cellInv ER (plan m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_of (K : Dev nD × Fin 7 → ℕ) (ck : Dev nD × Fin 7) :
    (bigSep Finset.univ fun ck : Dev nD × Fin 7 => (cellInv ER (plan m ρ) (K ck) (kcell ck) : sProp 𝕄)) ⊢ cellInv ER (plan m ρ) (K ck) (kcell ck) :=
  bigSep_elim (Finset.mem_univ ck)
omit [FloatOps F] in
theorem reached_of (ck : Dev nD × Fin 7) :
    (bigSep Finset.univ fun ck : Dev nD × Fin 7 => (reached ER (kcell ck) 0 : sProp 𝕄)) ⊢ reached ER (kcell ck) 0 :=
  bigSep_elim (Finset.mem_univ ck)

theorem records_inv (K : Dev nD × Fin 7 → ℕ) {ck : Dev nD × Fin 7} {g : GSem nD τ sig} (hg : kcell ck = g) :
    records m ρ K ⊢ cellInv ER (plan m ρ) (K ck) g := by
  subst hg; unfold records; iintro ⟨H, -⟩; iapply (inv_of m ρ K ck); iexact H
theorem records_reached (K : Dev nD × Fin 7 → ℕ) {ck : Dev nD × Fin 7} {g : GSem nD τ sig} (hg : kcell ck = g) :
    records m ρ K ⊢ reached ER g 0 := by
  subst hg; unfold records; iintro ⟨-, H⟩; iapply (reached_of (F := F) ck); iexact H

/-- The duties device `c` fulfils: at the three other barriers, at its own departures, at the three slots it fills. -/
def payToks (c : Dev nD) : sProp 𝕄 :=
  iprop((dutyTok ER (bar (ahead 0 c)) 0 2 ∗ dutyTok ER (bar (ahead 1 c)) 0 1 ∗ dutyTok ER (bar (ahead 2 c)) 0 0)
    ∗ (dutyTok ER (dep 0 c) 0 0 ∗ dutyTok ER (dep 1 c) 0 0 ∗ dutyTok ER (dep 2 c) 0 0)
    ∗ (dutyTok ER (arr 0 (ahead 0 c)) 0 0 ∗ dutyTok ER (arr 1 (ahead 1 c)) 0 0 ∗ dutyTok ER (arr 2 (ahead 2 c)) 0 0))

/-- Where device `c` stands at its own counters. -/
def places (c : Dev nD) : sProp 𝕄 := bigSep Finset.univ fun k : Fin 7 => atPos ER (kcell (c, k)) 0 ∅ 0

def ghost (K : Dev nD × Fin 7 → ℕ) (c : Dev nD) : sProp 𝕄 := iprop(records m ρ K ∗ places c ∗ payToks c)

/-- What will come in at its own counters. -/
def credits (c : Dev nD) : sProp 𝕄 :=
  iprop(cred (tallyAt (bar c) () 3) ∗ cred (tallyAt (arr 0 c) () N) ∗ cred (tallyAt (arr 1 c) () N) ∗ cred (tallyAt (arr 2 c) () N))

def start (c : Dev nD) : sProp 𝕄 := iprop((∃ K, ghost m ρ K c) ∗ credits c ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f, slotPts 0 c f) ∗ (∃ f, slotPts 1 c f) ∗ ∃ f, slotPts 2 c f)

/-- After the kernel: the buffers back, and all seven counters at zero. -/
def Φ₁ (c : Dev nD) : sProp 𝕄 :=
  iprop((∃ f : Buf (Elt F) ((c : Thread nD τ).loc cc0_scratch0), ((c : Thread nD τ).loc cc0_scratch0) ↦{fullShare} f)
    ∗ ((∃ f, slotPts 0 c f) ∗ (∃ f, slotPts 1 c f) ∗ ∃ f, slotPts 2 c f)
    ∗ bigSep Finset.univ fun k : Fin 7 => semVal (kcell (c, k)) 0)

/-- What a load of slot `k` reads once the statistics of `c'` are in it. -/
def slotRead (k : Fin 3) (c' : Dev nD) : Vec F S1x8x1024 .f32 :=
  (lM : Memref sig .tc .vmem S3x8x1024 .f32).view.readAt (Elt F) (slotRect k).toLoadRect (landed m ρ k c')

/-- The kernel's result on device `c`. -/
def outAt (c : Dev nD) : (cc0_stg4_0 : Ref sig .tc).ty.Contents (Elt F) :=
  k0_pay7 (k0_pay4 (tA m ρ c) (gA m ρ c)) (k0_pay5 (tA m ρ c) (hA m ρ c)) (k0_pay6 (k0_pay1 (xA m ρ c))) (stats m ρ c)
    (slotRead m ρ 0 (ahead (opp 0) c)) (slotRead m ρ 1 (ahead (opp 1) c)) (slotRead m ρ 2 (ahead (opp 2) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => tA m ρ c
    | ⟨2, _⟩ => gA m ρ c
    | ⟨3, _⟩ => hA m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Exchange

end
-- ==== Proof.KernelIdeal.Steps.lean ====
/-
# The exchange's steps: a signal, the barrier, a copy, the end of a copy

Each of the kernel's effects on the exchange, stated once for all the distances `k`: what it takes and what it leaves.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 7 → ℕ)

/-- The signal to the device `k + 1` places on: it pays that barrier's duty `3 - k`, handing over this device's slot of that number. -/
theorem signal_step (k : Fin 3) (c n : Dev nD) (hn : n = ahead k c) (O O' : CellTallies nD τ sig Unit)
    (hO : O = O' + tallyAt (bar (ahead k c)) () 1) (W : Waits sig Unit) (j : ℕ) (hj : 1 = j)
    {α : Type} {Q : α → sProp 𝕄} {p : PUnit → Prog (TpuEff nD τ sig (Elt F) Λ₀ .tc) α} :
    iprop(records m ρ K ∗ owes (c : Thread nD τ) O W ∗ dutyTok ER (bar (ahead k c)) 0 (opp k) ∗ (∃ f, slotPts (opp k) c f))
      ⊢ iprop((owes (c : Thread nD τ) O' W -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) barS j) p) Q) := by
  subst hn; subst hj
  iintro ⟨#HR, HO, Ht, Hs⟩
  iapply (Rounds.wp_signal 𝒱₀ ER (plan m ρ) (c : Thread nD τ) none (dst := (ahead k c : Thread nD τ)) (κ := K (ahead k c, 0))
      (d := opp k) (by rw [duties_bar]; exact Finset.mem_univ _) (amount_bar m ρ (ahead k c) (opp k)) () O' hO)
  isplitr; · iapply (records_inv m ρ K (kcell_bar (ahead k c))); iexact HR
  isplitl [HO]; · iexact HO
  isplitl [Ht]; · iexact Ht
  isplitl [Hs]
  · rw [payload_bar]; unfold barPay; rw [opp_ahead]; iexact Hs
  iapply (records_reached m ρ K (kcell_bar (ahead k c))); iexact HR

/-- The barrier: the three slots this device copies into come with it. -/
theorem barrier_step (c : Dev nD) (W : Waits sig Unit) (j : ℕ) (hj : 3 = j)
    {α : Type} {Q : α → sProp 𝕄} {p : PUnit → Prog (TpuEff nD τ sig (Elt F) Λ₀ .tc) α} :
    iprop(records m ρ K ∗ cred (tallyAt (bar c) () 3) ∗ owes (c : Thread nD τ) (C₀ c) W ∗ levAts L lv ∗ atPos ER (bar c) 0 ∅ 0)
      ⊢ iprop(((owes (c : Thread nD τ) (C₀ c) (insert (SemLoc.reg barS, ()) W) ∗ atPos ER (bar c) (0 + 1) ∅ 0
            ∗ barPay c 0 ∗ barPay c 1 ∗ barPay c 2) -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS j) p) Q) := by
  subst hj
  iintro ⟨#HR, Hc, HO, #Hlev, Hat⟩ Hk
  iapply (Rounds.wp_wait_rest_token 𝒱₀ ER (plan m ρ) (c : Thread nD τ) none (κ := K (c, 0))
      (wpE_semWait_eq 𝒱₀ (c : Thread nD τ) none Set.univ) (Set.mem_univ _) () (O := C₀ c) (W := W) (R := 0) (m := 0) (T := ∅)
      (by rw [expect_bar])) $$ [Hc HO Hat]
  · isplitr; · iapply (records_inv m ρ K (kcell_bar c)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

set_option maxHeartbeats 800000 in
/-- Copy number `k`: the lent part of the statistics and the receiver's slot go in, the arrival is no longer owed. -/
theorem copy_step (k : Fin 3) (c n : Dev nD) (hn : n = ahead k c) (M : Memref sig .tc .vmem S8x1024 .f32) (hM : M = slot k)
    (q₁ q₂ : DmaSem sig) (hq₁ : q₁ = outS k) (hq₂ : q₂ = inS k)
    {hsc : (M : Memref sig (Dev.tc n : Thread nD τ).2.kind .vmem S8x1024 .f32).view.ref.isScScratch = false}
    {hsrc : (sM : Memref sig .tc .vmem S8x1024 .f32).view.WordExact} {hdst : (M : Memref sig .tc .vmem S8x1024 .f32).view.WordExact}
    {hsem : DmaTarget.Typed .vmem (.dma q₂) (.remote (Dev.tc n : Thread nD τ) (M : Memref sig .tc .vmem S8x1024 .f32) (.dma q₁) hsc)}
    (O O' : CellTallies nD τ sig Unit) (hO : O = O' + tallyAt (arr k (ahead k c)) () N) (W : Waits sig Unit)
    {α : Type} {Q : α → sProp 𝕄} {p : PUnit → Prog (TpuEff nD τ sig (Elt F) Λ₀ .tc) α} :
    iprop(records m ρ K ∗ statPts m ρ (lent k) c ∗ barPay c k ∗ owes (c : Thread nD τ) O W
        ∗ dutyTok ER (dep k c) 0 0 ∗ dutyTok ER (arr k (ahead k c)) 0 0)
      ⊢ iprop(((cred (tallyAt (dep k c) () N) ∗ owes (c : Thread nD τ) O' W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma sM (.remote (Dev.tc n : Thread nD τ) M (.dma q₁) hsc) (.dma q₂) hsrc hdst hsem) p) Q) := by
  subst hn; subst hM; subst hq₁; subst hq₂
  unfold barPay
  iintro ⟨#HR, Hs, ⟨%fn, Hl⟩, HO, Ht₁, Ht₂⟩
  unfold statPts slotPts
  iapply (Rounds.wp_send_pointsTo 𝒱₀ ER (plan m ρ) (c : Thread nD τ) none (κ₁ := K (c, di k)) (κ₂ := K (ahead k c, ai k))
    (r₁ := 0) (r₂ := 0) (d₁ := 0) (d₂ := 0) (fd := fn)
    (by rw [duties_dep]; exact Finset.mem_singleton_self _) (by rw [duties_arr]; exact Finset.mem_singleton_self _)
    () () N rfl (amount_dma m ρ c (outS k) 0) (amount_dma m ρ (ahead k c) (inS k) 0) O' hO (W := W)
    (by rw [payload_dep]; exact BI.Entails.refl _)
    (by rw [payload_arr, opp_ahead, ← slotPts_landed m ρ k (ahead k c) c fn]; exact BI.Entails.refl _))
  isplitr; · iapply (records_inv m ρ K (kcell_dep k c)); iexact HR
  isplitr; · iapply (records_inv m ρ K (kcell_arr k (ahead k c))); iexact HR
  isplitl [Hs]; · iexact Hs
  isplitl [Hl]; · iexact Hl
  isplitl [HO]; · iexact HO
  isplitl [Ht₁]; · iexact Ht₁
  isplitr; · iapply (records_reached m ρ K (kcell_dep k c)); iexact HR
  isplitl [Ht₂]; · iexact Ht₂
  iapply (records_reached m ρ K (kcell_arr k (ahead k c))); iexact HR

/-- The end of a copy, at a departure or an arrival counter `q`: what the counter hands over. -/
theorem done_step (c : Dev nD) (q q' : DmaSem sig) (hq' : q' = q) (ck : Dev nD × Fin 7) (hck : kcell ck = ((c : Thread nD τ), .dma q))
    (hq : (plan (F := F) m ρ).duties ((c : Thread nD τ), .dma q) 0 = {0})
    (P : sProp 𝕄) (hP : (plan (F := F) m ρ).payload ((c : Thread nD τ), .dma q) 0 0 = P) (W : Waits sig Unit)
    {src dst : Memref sig .tc .vmem S8x1024 .f32} {hsrc : src.view.WordExact} {hdst : dst.view.WordExact} (hN : dst.view.dmaCredit = N)
    {α : Type} {Q : α → sProp 𝕄} {p : PUnit → Prog (TpuEff nD τ sig (Elt F) Λ₀ .tc) α} :
    iprop(records m ρ K ∗ cred (tallyAt ((c : Thread nD τ), SemLoc.dma q) () N) ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) (0 + 1) ∅ 0 ∗ P)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q' src dst hsrc hdst) p) Q) := by
  subst hq'
  iintro ⟨#HR, Hc, HO, Hat⟩ Hk
  iapply (Rounds.wp_wait_rest_token 𝒱₀ ER (plan m ρ) (c : Thread nD τ) none (κ := K ck)
      (wpE_waitDma2_eq 𝒱₀ (c : Thread nD τ) none Set.univ) (Set.mem_univ _) () (O := 0) (W := W) (R := 0) (m := 0) (T := ∅)
      (by rw [Nat.zero_add, hN, expect_dma m ρ c q' hq])) $$ [Hc HO Hat]
  · isplitr; · iapply (records_inv m ρ K hck); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_dma m ρ c q' hq).trans hP)); iexact Hpay

/-- A counter past its only round is closed: it stands at zero. -/
theorem close_step (ck : Dev nD × Fin 7) {g : GSem nD τ sig} (hck : kcell ck = g) :
    iprop(records m ρ K ∗ atPos ER g (0 + 1) ∅ 0) ⊢ (|={Set.univ}=> semVal (kcell ck) 0 : sProp 𝕄) := by
  subst hck
  iintro ⟨#HR, Hat⟩
  iapply (Rounds.cell_close ER (plan m ρ) (Set.mem_univ (K ck)) (fun h => h) (R := 0 + 1) (duties_later m ρ (kcell ck)))
  isplitr; · iapply (records_inv m ρ K (rfl : kcell ck = kcell ck)); iexact HR
  iexact Hat

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ### What the loads and stores see -/

theorem hz2 : (![0, 0] : Fin 2 → Nat) = fun _ => 0 := by funext i; fin_cases i <;> rfl
theorem hz3 : (![0, 0, 0] : Fin 3 → Nat) = fun _ => 0 := by funext i; fin_cases i <;> rfl

abbrev rX : Rect S4x1024x256 := Rect.unit (s := S4x1024x256) ![0, 0, 0] S4x1024x256.size inb_S4x1024x256_S4x1024x256_0_0_0
abbrev rT : Rect S4x128 := Rect.unit (s := S4x128) ![0, 0] S4x128.size inb_S4x128_S4x128_0_0
abbrev rW : Rect S128x256 := Rect.unit (s := S128x256) ![0, 0] S128x256.size inb_S128x256_S128x256_0_0
abbrev rS : Rect S8x1024 := Rect.unit (s := S8x1024) ![0, 0] S8x1024.size inb_S8x1024_S8x1024_0_0

omit [FloatOps F] in
theorem read_x (f : (cc0_stg0_0 : Ref sig .tc).ty.Contents (Elt F)) :
    (xM : Memref sig .tc .vmem S4x1024x256 .bf16).view.readAt (Elt F) rX.toLoadRect f = f := Memref.readAt_unit_zero (Elt F) cc0_stg0_0 hz3 _ f
omit [FloatOps F] in
theorem read_t (f : (cc0_stg1_0 : Ref sig .tc).ty.Contents (Elt F)) :
    (tM : Memref sig .tc .vmem S4x128 .bf16).view.readAt (Elt F) rT.toLoadRect f = f := Memref.readAt_unit_zero (Elt F) cc0_stg1_0 hz2 _ f
omit [FloatOps F] in
theorem read_g (f : (cc0_stg2_0 : Ref sig .tc).ty.Contents (Elt F)) :
    (gM : Memref sig .tc .vmem S128x256 .bf16).view.readAt (Elt F) rW.toLoadRect f = f := Memref.readAt_unit_zero (Elt F) cc0_stg2_0 hz2 _ f
omit [FloatOps F] in
theorem read_h (f : (cc0_stg3_0 : Ref sig .tc).ty.Contents (Elt F)) :
    (hM : Memref sig .tc .vmem S128x256 .bf16).view.readAt (Elt F) rW.toLoadRect f = f := Memref.readAt_unit_zero (Elt F) cc0_stg3_0 hz2 _ f
omit [FloatOps F] in
theorem read_s (f : (cc0_scratch0 : Ref sig .tc).ty.Contents (Elt F)) :
    (sM : Memref sig .tc .vmem S8x1024 .f32).view.readAt (Elt F) rS.toLoadRect f = f := Memref.readAt_unit_zero (Elt F) cc0_scratch0 hz2 _ f
omit [FloatOps F] in
theorem write_o (f w : (cc0_stg4_0 : Ref sig .tc).ty.Contents (Elt F)) :
    ((oM : Memref sig .tc .vmem S4x1024x256 .bf16).access rX : View sig .tc _ _ _).write (Elt F) f w Finset.univ = w :=
  Memref.write_access_unit_zero_univ (Elt F) cc0_stg4_0 hz3 _ f w

/-- The load of slot `k` after an arrival. -/
theorem load_slot (k : Fin 3) (c c' : Dev nD) (r : Rect S3x8x1024) (hr : r = slotRect k)
    {hl : (lM : Memref sig .tc .vmem S3x8x1024 .f32).view.LoadsAt r.toLoadRect}
    {α : Type} {Q : α → sProp 𝕄} {p : (r.toLoadRect.shape.Idx → Elt F (.f32 : EltTy)) → Prog (TpuEff nD τ sig (Elt F) Λ₀ .tc) α} :
    slotPts k c (landed m ρ k c')
      ⊢ iprop((slotPts k c (landed m ρ k c')
            -∗ wp frame (wpE (defs₀ (F := F)) 𝒱₀ (c : Thread nD τ) none) Set.univ (p ((lM : Memref sig .tc .vmem S3x8x1024 .f32).view.readAt (Elt F) r.toLoadRect (landed m ρ k c'))) Q)
          -∗ wp frame (wpE (defs₀ (F := F)) 𝒱₀ (c : Thread nD τ) none) Set.univ (.op (.load lM r.toLoadRect hl) p) Q) := by
  subst hr
  unfold slotPts
  refine wp_load_rect 𝒱₀ (c : Thread nD τ) none Set.univ (m := lM) ?_
  rw [View.set_reshape]

end Cert.KernelIdeal.Exchange

end
-- ==== Proof.KernelIdeal.Body.lean ====
/-
# The kernel on one device

From what a device starts from — its inputs staged, its scratch buffers at anything, its part of the exchange — the kernel
runs to its end: the result staged, the buffers back, every counter of the exchange at zero.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def windows (c : Dev nD) : sProp 𝕄 :=
  iprop((∃ d, staged c cc0_stg0_0 ((dats m ρ 0 c).before (0 : Fin 5) t0_0 d))
    ∗ (∃ d, staged c cc0_stg1_0 ((dats m ρ 0 c).before (1 : Fin 5) t0_0 d))
    ∗ (∃ d, staged c cc0_stg2_0 ((dats m ρ 0 c).before (2 : Fin 5) t0_0 d))
    ∗ (∃ d, staged c cc0_stg3_0 ((dats m ρ 0 c).before (3 : Fin 5) t0_0 d))
    ∗ (∃ d, staged c cc0_stg4_0 ((dats m ρ 0 c).before (4 : Fin 5) t0_0 d)))

def before (c : Dev nD) : sProp 𝕄 := iprop(Φ₀ m ρ c ∗ (dats m ρ 0 c).owesAt () t0_0.castSucc ∗ windows m ρ c)

def after (c : Dev nD) : sProp 𝕄 :=
  iprop(Φ₁ c ∗ (dats m ρ 0 c).owesAt () t0_0.succ
    ∗ staged c cc0_stg0_0 (xA m ρ c) ∗ staged c cc0_stg1_0 (tA m ρ c) ∗ staged c cc0_stg2_0 (gA m ρ c) ∗ staged c cc0_stg3_0 (hA m ρ c)
    ∗ staged c cc0_stg4_0 (outAt m ρ c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3

set_option maxHeartbeats 4000000 in
set_option maxRecDepth 8000 in
/-- The kernel's effects in program order. -/
theorem body_runs (c : Dev nD) (Kt : PUnit → sProp 𝕄) :
    iprop(before m ρ c ∗ (after m ρ c -∗ Kt ⟨⟩)) ⊢ wp frame (wpE (defs₀ (F := F)) 𝒱₀ c none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold before windows Φ₀ start ghost places payToks credits
  rw [seven]
  iintro ⟨⟨⟨⟨⟨%K, #HR, ⟨HpB, HpD0, HpD1, HpD2, HpA0, HpA1, HpA2⟩, ⟨HtB0, HtB1, HtB2⟩, ⟨HtD0, HtD1, HtD2⟩, ⟨HtA0, HtA1, HtA2⟩⟩,
      ⟨HcB, HcA0, HcA1, HcA2⟩, #Hlev⟩, ⟨%fs, Hs⟩, Hl0, Hl1, Hl2⟩,
    Ho, ⟨%dx, %gx, %hgx, Hx⟩, ⟨%dt, %gt, %hgt, Ht⟩, ⟨%dg, %gg, %hgg, Hg⟩, ⟨%dh, %gh, %hgh, Hh⟩, ⟨%do', %go, %hgo, Hout⟩⟩, Hk⟩
  have hx : gx = xA m ρ c := by rw [hgx]; unfold Dat.before; rw [if_pos (fetch0_0 t0_0)]; rfl
  have ht : gt = tA m ρ c := by rw [hgt]; unfold Dat.before; rw [if_pos (fetch0_1 t0_0)]; rfl
  have hg : gg = gA m ρ c := by rw [hgg]; unfold Dat.before; rw [if_pos (fetch0_2 t0_0)]; rfl
  have hh : gh = hA m ρ c := by rw [hgh]; unfold Dat.before; rw [if_pos (fetch0_3 t0_0)]; rfl
  subst hx; subst ht; subst hg; subst hh
  unfold Dat.owesAt Pipeline.owesWithin
  icases Ho with ⟨%W, %hW, HO⟩
  rw [show (dats m ρ 0 c).owed t0_0.castSucc = O₀ c from rfl]
  -- the statistics
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := sumRows) (Mk := Finset.univ) (Finset.subset_univ _)) $$ Hs; iintro Hs
  iapply (wp_load 𝒱₀ (c : Thread nD τ) none Set.univ (m := sM) (Finset.subset_univ _)) $$ Hs; iintro Hs
  iapply (wp_store 𝒱₀ (c : Thread nD τ) none Set.univ (m := sM) (r := sqRows) (Mk := Finset.univ) (Finset.subset_univ _)) $$ Hs; iintro Hs
  rw [stats_stored]
  rw [show statsOf (xA m ρ c) = stats m ρ c from rfl]
  -- the three signals and the barrier
  iapply (signal_step m ρ K 0 c _ (dev1_eq c) (O₀ c) (B₁ c) rfl W _ (by decide)) $$ [HO HtB0 Hl2]
  · isplitr; · iexact HR
    isplitl [HO]; · iexact HO
    isplitl [HtB0]; · iexact HtB0
    iexact Hl2
  iintro HO
  iapply (signal_step m ρ K 1 c _ (dev2_eq c) (B₁ c) (B₂ c) rfl W _ (by decide)) $$ [HO HtB1 Hl1]
  · isplitr; · iexact HR
    isplitl [HO]; · iexact HO
    isplitl [HtB1]; · iexact HtB1
    iexact Hl1
  iintro HO
  iapply (signal_step m ρ K 2 c _ (dev3_eq c) (B₂ c) (C₀ c) rfl W _ (by decide)) $$ [HO HtB2 Hl0]
  · isplitr; · iexact HR
    isplitl [HO]; · iexact HO
    isplitl [HtB2]; · iexact HtB2
    iexact Hl0
  iintro HO
  iapply (barrier_step m ρ K c W _ (by decide)) $$ [HcB HO HpB]
  · isplitr; · iexact HR
    isplitl [HcB]; · iexact HcB
    isplitl [HO]; · iexact HO
    isplitr; · iexact Hlev
    iexact HpB
  iintro ⟨HO, HpB, Hn0, Hn1, Hn2⟩
  -- the three copies
  ihave Hss := (stat_parts m ρ c).1 $$ Hs
  icases Hss with ⟨Hs0, Hs1, Hs2⟩
  iapply (copy_step m ρ K 0 c _ (dev4_eq c) _ rfl _ _ out0 in0 (C₀ c) (C₁ c) rfl _) $$ [Hs0 Hn0 HO HtD0 HtA0]
  · isplitr; · iexact HR
    isplitl [Hs0]; · iexact Hs0
    isplitl [Hn0]; · iexact Hn0
    isplitl [HO]; · iexact HO
    isplitl [HtD0] <;> iassumption
  iintro ⟨HcD0, HO⟩
  iapply (copy_step m ρ K 1 c _ (dev5_eq c) _ rfl _ _ out1 in1 (C₁ c) (C₂ c) rfl _) $$ [Hs1 Hn1 HO HtD1 HtA1]
  · isplitr; · iexact HR
    isplitl [Hs1]; · iexact Hs1
    isplitl [Hn1]; · iexact Hn1
    isplitl [HO]; · iexact HO
    isplitl [HtD1] <;> iassumption
  iintro ⟨HcD1, HO⟩
  iapply (copy_step m ρ K 2 c _ (dev6_eq c) _ rfl _ _ out2 in2 (C₂ c) 0 (by unfold C₂; rw [zero_add]) _) $$ [Hs2 Hn2 HO HtD2 HtA2]
  · isplitr; · iexact HR
    isplitl [Hs2]; · iexact Hs2
    isplitl [Hn2]; · iexact Hn2
    isplitl [HO]; · iexact HO
    isplitl [HtD2] <;> iassumption
  iintro ⟨HcD2, HO⟩
  -- the two small products
  iapply (wp_load 𝒱₀ (c : Thread nD τ) none Set.univ (m := tM) (Finset.subset_univ _)) $$ Ht; iintro Ht
  rw [read_t]
  iapply (wp_load 𝒱₀ (c : Thread nD τ) none Set.univ (m := gM) (Finset.subset_univ _)) $$ Hg; iintro Hg
  rw [read_g]
  iapply (wp_load 𝒱₀ (c : Thread nD τ) none Set.univ (m := tM) (Finset.subset_univ _)) $$ Ht; iintro Ht
  rw [read_t]
  iapply (wp_load 𝒱₀ (c : Thread nD τ) none Set.univ (m := hM) (Finset.subset_univ _)) $$ Hh; iintro Hh
  rw [read_h]
  -- the copies end, in turn
  iapply (done_step m ρ K c (outS 0) _ out0 (c, di 0) (kcell_dep 0 c) (duties_dep m ρ c 0) _ (payload_dep m ρ c 0 0) _ (src := slot 0) (dst := sM) rfl) $$ [HcD0 HO HpD0]
  · isplitr; · iexact HR
    isplitl [HcD0]; · iexact HcD0
    isplitl [HO] <;> iassumption
  iintro ⟨HO, HpD0, Hs0⟩
  iapply (done_step m ρ K c (inS 0) _ in0 (c, ai 0) (kcell_arr 0 c) (duties_arr m ρ c 0) _ (payload_arr m ρ c 0 0) _ (src := sM) (dst := slot 0) rfl) $$ [HcA0 HO HpA0]
  · isplitr; · iexact HR
    isplitl [HcA0]; · iexact HcA0
    isplitl [HO] <;> iassumption
  iintro ⟨HO, HpA0, Hl0⟩
  iapply (done_step m ρ K c (outS 1) _ out1 (c, di 1) (kcell_dep 1 c) (duties_dep m ρ c 1) _ (payload_dep m ρ c 1 0) _ (src := slot 1) (dst := sM) rfl) $$ [HcD1 HO HpD1]
  · isplitr; · iexact HR
    isplitl [HcD1]; · iexact HcD1
    isplitl [HO] <;> iassumption
  iintro ⟨HO, HpD1, Hs1⟩
  iapply (done_step m ρ K c (inS 1) _ in1 (c, ai 1) (kcell_arr 1 c) (duties_arr m ρ c 1) _ (payload_arr m ρ c 1 0) _ (src := sM) (dst := slot 1) rfl) $$ [HcA1 HO HpA1]
  · isplitr; · iexact HR
    isplitl [HcA1]; · iexact HcA1
    isplitl [HO] <;> iassumption
  iintro ⟨HO, HpA1, Hl1⟩
  iapply (done_step m ρ K c (outS 2) _ out2 (c, di 2) (kcell_dep 2 c) (duties_dep m ρ c 2) _ (payload_dep m ρ c 2 0) _ (src := slot 2) (dst := sM) rfl) $$ [HcD2 HO HpD2]
  · isplitr; · iexact HR
    isplitl [HcD2]; · iexact HcD2
    isplitl [HO] <;> iassumption
  iintro ⟨HO, HpD2, Hs2⟩
  iapply (done_step m ρ K c (inS 2) _ in2 (c, ai 2) (kcell_arr 2 c) (duties_arr m ρ c 2) _ (payload_arr m ρ c 2 0) _ (src := sM) (dst := slot 2) rfl) $$ [HcA2 HO HpA2]
  · isplitr; · iexact HR
    isplitl [HcA2]; · iexact HcA2
    isplitl [HO] <;> iassumption
  iintro ⟨HO, HpA2, Hl2⟩
  ihave Hs := (stat_parts m ρ c).2 $$ [Hs0 Hs1 Hs2]
  · isplitl [Hs0]; · iexact Hs0
    isplitl [Hs1] <;> iassumption
  -- the total statistics and the result
  iapply (wp_load 𝒱₀ (c : Thread nD τ) none Set.univ (m := sM) (Finset.subset_univ _)) $$ Hs; iintro Hs
  rw [read_s]
  iapply (load_slot m ρ 0 c _ _ rfl) $$ Hl0; iintro Hl0
  iapply (load_slot m ρ 1 c _ _ rfl) $$ Hl1; iintro Hl1
  iapply (load_slot m ρ 2 c _ _ rfl) $$ Hl2; iintro Hl2
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_o]
  -- the counters close
  imod (close_step m ρ K (c, 0) (kcell_bar c)) $$ [HpB] with HzB
  · isplitr; · iexact HR
    iexact HpB
  imod (close_step m ρ K (c, 1) (kcell_dep 0 c)) $$ [HpD0] with HzD0
  · isplitr; · iexact HR
    iexact HpD0
  imod (close_step m ρ K (c, 2) (kcell_dep 1 c)) $$ [HpD1] with HzD1
  · isplitr; · iexact HR
    iexact HpD1
  imod (close_step m ρ K (c, 3) (kcell_dep 2 c)) $$ [HpD2] with HzD2
  · isplitr; · iexact HR
    iexact HpD2
  imod (close_step m ρ K (c, 4) (kcell_arr 0 c)) $$ [HpA0] with HzA0
  · isplitr; · iexact HR
    iexact HpA0
  imod (close_step m ρ K (c, 5) (kcell_arr 1 c)) $$ [HpA1] with HzA1
  · isplitr; · iexact HR
    iexact HpA1
  imod (close_step m ρ K (c, 6) (kcell_arr 2 c)) $$ [HpA2] with HzA2
  · isplitr; · iexact HR
    iexact HpA2
  rw [wp_ret]; imodintro
  iapply Hk
  unfold after Φ₁ Dat.owesAt Pipeline.owesWithin
  rw [show (dats m ρ 0 c).owed t0_0.succ = 0 from rfl, seven]
  isplitl [Hs Hl0 Hl1 Hl2 HzB HzD0 HzD1 HzD2 HzA0 HzA1 HzA2]
  · isplitl [Hs]; · iexists _; iexact Hs
    isplitl [Hl0 Hl1 Hl2]
    · isplitl [Hl0]; · iexists _; iexact Hl0
      isplitl [Hl1]; · iexists _; iexact Hl1
      iexists _; iexact Hl2
    isplitl [HzB]; · iexact HzB
    isplitl [HzD0]; · iexact HzD0
    isplitl [HzD1]; · iexact HzD1
    isplitl [HzD2]; · iexact HzD2
    isplitl [HzA0]; · iexact HzA0
    isplitl [HzA1] <;> iassumption
  isplitl [HO]
  · iexists (insert (SemLoc.dma (inS 2), ()) (insert (SemLoc.dma (outS 2), ()) (insert (SemLoc.dma (inS 1), ()) (insert (SemLoc.dma (outS 1), ())
      (insert (SemLoc.dma (inS 0), ()) (insert (SemLoc.dma (outS 0), ()) (insert (SemLoc.reg barS, ()) W)))))))
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  isplitl [Hg]
  · iexists _; isplitr; · (ipureintro; rfl)
    iexact Hg
  isplitl [Hh]
  · iexists _; isplitr; · (ipureintro; rfl)
    iexact Hh
  iexists _; isplitr; · (ipureintro; rfl)
  iexact Hout

set_option maxRecDepth 8000 in
/-- What the pipeline asks of the kernel on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show before m ρ c ⊢ wp frame (wpE (defs₀ (F := F)) 𝒱₀ c none) Set.univ (theBody (F := F)) (fun _ => after m ρ c)
  iintro H
  iapply (body_runs m ρ c fun _ => after m ρ c)
  isplitl [H]; · iexact H
  iintro H; iexact H

end Cert.KernelIdeal.Exchange

end
-- ==== Proof.KernelIdeal.Run.lean ====
/-
# The launch, and the run of the whole program

The counters' invariants, the positions and the duty tokens are dealt out to the four devices; with what each device then
holds, its run goes through, and the program ends with every array at its computed contents and every counter at zero.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Dealing out the exchange -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  obtain rfl : c = c' := congrArg (fun g : GSem nD τ sig => g.1.1) h
  obtain rfl : k = k' := csem_injective (congrArg Prod.snd h)
  rfl
def cells : Finset (GSem nD τ sig) := Finset.univ.map ⟨kcell, kcell_injective⟩

/-- The nine duties of a device's own counters: which counter, which duty. -/
abbrev dutyAt : Fin 9 → Fin 7 × Fin 3 :=
  fun | 0 => (0, 0) | 1 => (0, 1) | 2 => (0, 2) | 3 => (1, 0) | 4 => (2, 0) | 5 => (3, 0) | 6 => (4, 0) | 7 => (5, 0) | 8 => (6, 0)
theorem dutyAt_injective : Function.Injective dutyAt := by decide
abbrev tokOf (cj : Dev nD × Fin 9) : GSem nD τ sig × ℕ × Fin 3 := (kcell (cj.1, (dutyAt cj.2).1), 0, (dutyAt cj.2).2)
theorem tokOf_injective : Function.Injective (tokOf : Dev nD × Fin 9 → GSem nD τ sig × ℕ × Fin 3) := by
  rintro ⟨c, j⟩ ⟨c', j'⟩ h
  have hk := kcell_injective (congrArg Prod.fst h)
  obtain rfl : c = c' := congrArg Prod.fst hk
  obtain rfl : j = j' := dutyAt_injective (Prod.ext (congrArg Prod.snd hk) (congrArg (fun x : GSem nD τ sig × ℕ × Fin 3 => x.2.2) h))
  rfl
def tokens : Finset (GSem nD τ sig × ℕ × Fin 3) := Finset.univ.map ⟨tokOf, tokOf_injective⟩

def u₀ : UU :=
  (initOf (Pipeline.cells cfgs cellOf_inj) (Pipeline.launchToks cfgs cellOf_inj), initOf cells tokens)

/-- The duty tokens of device `c`'s own counters. -/
def toks (c : Dev nD) : sProp 𝕄 :=
  iprop((dutyTok ER (bar c) 0 0 ∗ dutyTok ER (bar c) 0 1 ∗ dutyTok ER (bar c) 0 2)
    ∗ (dutyTok ER (dep 0 c) 0 0 ∗ dutyTok ER (dep 1 c) 0 0 ∗ dutyTok ER (dep 2 c) 0 0)
    ∗ (dutyTok ER (arr 0 c) 0 0 ∗ dutyTok ER (arr 1 c) 0 0 ∗ dutyTok ER (arr 2 c) 0 0))

omit [FloatOps F] in
theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem toks_of (c : Dev nD) :
    (bigSep Finset.univ fun j : Fin 9 => (dutyTok ER (tokOf (c, j)).1 (tokOf (c, j)).2.1 (tokOf (c, j)).2.2 : sProp 𝕄)) ⊢ toks c := by
  rw [nine]; unfold toks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

/-- What the launch deals to device `c`, and what becomes of it once the invariants are in place. -/
def G (c : Dev nD) : sProp 𝕄 :=
  iprop((bigSep Finset.univ fun k : Fin 7 => roundState ER (plan m ρ) (kcell (c, k)) 0)
    ∗ (places c ∗ bigSep Finset.univ fun k : Fin 7 => reached ER (kcell (c, k)) 0) ∗ toks c)
def G' (c : Dev nD) : sProp 𝕄 := iprop(∃ K, ghost m ρ K c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : Fin 7 => Φ (kcell (c, k)) := by
    unfold cells; rw [bigSep_map, bigSep_univ_prod]; rfl
  have hT : bigSep tokens (fun x => (dutyTok ER x.1 x.2.1 x.2.2 : sProp 𝕄)) ⊢ bigSep Finset.univ fun c : Dev nD => toks c := by
    unfold tokens; rw [bigSep_map, bigSep_univ_prod]
    exact bigSep_mono fun c _ => toks_of c
  iintro HX
  imod (Rounds.fund ER (plan m ρ) cells tokens) $$ HX with ⟨Hst, Hr, Hat, Htok⟩
  imodintro
  ihave Hst' := (Entails.of_eq (hX fun g => roundState ER (plan m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G places; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (dep 0 c) 0 ∗ semVal (dep 1 c) 0 ∗ semVal (dep 2 c) 0 ∗ semVal (arr 0 c) 0 ∗ semVal (arr 1 c) 0 ∗ semVal (arr 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (bar c) 0 := by
  unfold unscopedSems0; rw [bigSep_eq_bigSepL_of_eq [SemLoc.reg barS] (by decide) (by decide)]; rfl

omit [FloatOps F] in
/-- The seven counters at zero are the runtime's barrier counter and the kernel's own six. -/
theorem sems0_eq (c : Dev nD) : (bigSep Finset.univ fun k : Fin 7 => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, seven]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (plan m ρ) κ (kcell (c, k))))
          ∗ (places c ∗ bigSep Finset.univ fun k : Fin 7 => reached ER (kcell (c, k)) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 7 => semVal (kcell (c, k)) 0) ∗ bigSep Finset.univ fun k : Fin 7 => roundState ER (plan m ρ) (kcell (c, k)) 0)
      ⊢ (|={Set.univ}=> bigSep Finset.univ fun k => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token goes to the device that fulfils the duty: tokens of barriers and arrivals travel round the ring. -/
theorem toks_around : (bigSep Finset.univ fun c : Dev nD => (toks c : sProp 𝕄)) ⊢ bigSep Finset.univ fun c : Dev nD => payToks c := by
  unfold toks payToks
  simp only [bigSep_sep']
  rw [bigSep_univ_equiv (turn 2) (fun c : Dev nD => (dutyTok ER (bar c) 0 0 : sProp 𝕄)),
    bigSep_univ_equiv (turn 1) (fun c : Dev nD => (dutyTok ER (bar c) 0 1 : sProp 𝕄)),
    bigSep_univ_equiv (turn 0) (fun c : Dev nD => (dutyTok ER (bar c) 0 2 : sProp 𝕄)),
    bigSep_univ_equiv (turn 0) (fun c : Dev nD => (dutyTok ER (arr 0 c) 0 0 : sProp 𝕄)),
    bigSep_univ_equiv (turn 1) (fun c : Dev nD => (dutyTok ER (arr 1 c) 0 0 : sProp 𝕄)),
    bigSep_univ_equiv (turn 2) (fun c : Dev nD => (dutyTok ER (arr 2 c) 0 0 : sProp 𝕄))]
  iintro ⟨⟨H0, H1, H2⟩, HD, HA⟩
  isplitl [H0 H1 H2]
  · isplitl [H2]; · iexact H2
    isplitl [H1]; · iexact H1
    iexact H0
  isplitl [HD]; · iexact HD
  iexact HA

theorem ghost_at (K : Dev nD × Fin 7 → ℕ) (c : Dev nD) : iprop(records m ρ K ∗ (places c ∗ payToks c)) ⊢ G' m ρ c := by
  unfold G' ghost
  iintro H; iexists K; iexact H

theorem regroup :
    (bigSep Finset.univ fun c : Dev nD => iprop((bigSep Finset.univ fun k => iprop(∃ κ : ℕ, cellInv ER (plan m ρ) κ (kcell (c, k))))
          ∗ (places c ∗ bigSep Finset.univ fun k : Fin 7 => reached ER (kcell (c, k)) 0) ∗ toks c) : sProp 𝕄)
      ⊢ bigSep Finset.univ (G' m ρ) := by
  rw [bigSep_sep', bigSep_sep', ← bigSep_univ_prod (fun ck : Dev nD × Fin 7 => iprop(∃ κ : ℕ, cellInv ER (plan m ρ) κ (kcell ck))),
    bigSep_sep', ← bigSep_univ_prod (fun ck : Dev nD × Fin 7 => (reached ER (kcell ck) 0 : sProp 𝕄))]
  iintro ⟨HI, ⟨Hat, #Hr⟩, Htok⟩
  ihave HK := (BI.bigSep_exists_pi Finset.univ (fun (ck : Dev nD × Fin 7) (κ : ℕ) => (cellInv ER (plan m ρ) κ (kcell ck) : sProp 𝕄))) $$ HI
  icases HK with ⟨%K, #HI⟩
  ihave Htk := (toks_around (F := F)) $$ Htok
  iapply (show iprop(records m ρ K ∗ bigSep Finset.univ fun c : Dev nD => iprop(places c ∗ payToks c)) ⊢ (bigSep Finset.univ (G' m ρ) : sProp 𝕄) from
    (sep_mono_left (BI.bigSep_of_persistent Finset.univ (records m ρ K))).trans (by
      rw [← bigSep_sep']
      exact bigSep_mono fun c _ => ghost_at m ρ K c))
  isplitr
  · unfold records; isplitl; · iexact HI
    iexact Hr
  · iapply (Entails.of_eq (bigSep_sep' Finset.univ (places : Dev nD → sProp 𝕄) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What comes in at each device's counters -/

theorem bar_inj {a b : Dev nD} (h : bar a = bar b) : a = b := congrArg (fun g : GSem nD τ sig => g.1.1) h
theorem arr_inj {j k : Fin 3} {a b : Dev nD} (h : arr j a = arr k b) : j = k ∧ a = b :=
  ⟨in_inj (congrArg Prod.snd h), congrArg (fun g : GSem nD τ sig => g.1.1) h⟩
theorem bar_ne_arr (k : Fin 3) (a b : Dev nD) : bar a ≠ arr k b := fun h => dma_ne_bar _ (congrArg Prod.snd h).symm

/-- Of all that device `d` owes, the part at the barrier of `c`: one unit for each distance at which `c` lies from `d`. -/
theorem owed_bar (d c : Dev nD) :
    O₀ d (bar c) () = (if c = ahead 2 d then 1 else 0) + (if c = ahead 1 d then 1 else 0) + (if c = ahead 0 d then 1 else 0) := by
  have e (k : Fin 3) : (bar c = bar (ahead k d)) = (c = ahead k d) := propext ⟨bar_inj, fun h => h ▸ rfl⟩
  rw [O₀_apply, C₀_apply, if_neg (bar_ne_arr _ _ _), if_neg (bar_ne_arr _ _ _), if_neg (bar_ne_arr _ _ _)]
  simp only [e, Nat.zero_add]

/-- The part at the arrival counter of slot `k` of `c`: one copy, if `c` lies `k + 1` places on. -/
theorem owed_arr (k : Fin 3) (d c : Dev nD) : O₀ d (arr k c) () = if c = ahead k d then N else 0 := by
  rw [O₀_apply, if_neg (bar_ne_arr _ _ _).symm, if_neg (bar_ne_arr _ _ _).symm, if_neg (bar_ne_arr _ _ _).symm, C₀_apply]
  have e (j : Fin 3) : (arr k c = arr j (ahead j d)) = (k = j ∧ c = ahead j d) := propext ⟨arr_inj, fun ⟨h, h'⟩ => by subst h; rw [h']⟩
  simp only [e]
  fin_cases k <;> simp

theorem sum_bar (c : Dev nD) : (∑ d : Dev nD, O₀ d (bar c) ()) = 3 := by
  rw [Finset.sum_congr rfl fun d _ => owed_bar d c]; revert c; decide
theorem sum_arr (k : Fin 3) (c : Dev nD) : (∑ d : Dev nD, O₀ d (arr k c) ()) = N := by
  have e : ∀ d ∈ (Finset.univ : Finset (Dev nD)), O₀ d (arr k c) () = if d = ahead (opp k) c then N else 0 := fun d _ => by
    rw [owed_arr]
    by_cases h : c = ahead k d
    · rw [if_pos h, if_pos (by rw [h, opp_ahead])]
    · rw [if_neg h, if_neg (fun h' => h (by rw [h', ahead_opp]))]
  rw [Finset.sum_congr rfl e, Finset.sum_ite_eq' Finset.univ (ahead (opp k) c) fun _ => N, if_pos (Finset.mem_univ _)]

theorem launch_at (g : GSem nD τ sig) (j : ℕ) (h : (∑ d : Dev nD, O₀ d g ()) = j) :
    tallyOn g (launchCredit (Pipeline.owing O₀) 0 g) = (tallyAt g () j : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred O₀ c : sProp 𝕄) ⊢ credits c := by
  unfold Pipeline.launchCred credits
  rw [← launch_at (bar c) 3 (sum_bar c), ← launch_at (arr 0 c) N (sum_arr 0 c), ← launch_at (arr 1 c) N (sum_arr 1 c), ← launch_at (arr 2 c) N (sum_arr 2 c)]
  have e := bigSep_eq_bigSepL_of_eq (S := ({.reg barS, .dma (inS 0), .dma (inS 1), .dma (inS 2)} : Finset (SemLoc sig)))
    [SemLoc.reg barS, .dma (inS 0), .dma (inS 1), .dma (inS 2)] (by decide) (by decide)
    (fun sm => (cred (tallyOn ((c : Thread nD τ), sm) (launchCredit (Pipeline.owing O₀) 0 ((c : Thread nD τ), sm))) : sProp 𝕄))
  rw [bigSepL_cons_cons, bigSepL_cons_cons, bigSepL_cons_cons, bigSepL_singleton] at e
  have h := bigSep_subset (Φ := fun sm => (cred (tallyOn ((c : Thread nD τ), sm) (launchCredit (Pipeline.owing O₀) 0 ((c : Thread nD τ), sm))) : sProp 𝕄))
    (Finset.subset_univ ({.reg barS, .dma (inS 0), .dma (inS 1), .dma (inS 2)} : Finset (SemLoc sig)))
  rw [e] at h
  exact h

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hb, Hl⟩
  isplitl [Hs]; · iexact Hs
  isplitl [Hb]; · iexact Hb
  iapply (slots_split (F := F) c); iexact Hl

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨Hb, Hl, Hu, Ho⟩
  isplitl [Hu]; · iexact Hu
  isplitl [Ho]; · iexact Ho
  isplitl [Hb]; · iexact Hb
  iapply (slots_join (F := F) c); iexact Hl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of each window's array at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every fair run of the four devices ends, with each array at its
    computed contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays hold at the end what they held. -/
theorem kept (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.KernelIdeal.Exchange

end
-- ==== Proof.KernelIdeal.Result.lean ====
/-
# What the arrays hold at the end

The five windows are whole arrays: what is staged is the argument itself, and the result array ends holding what the
kernel left. With the run of the program this gives the two statements the claims are made of.
-/
module

public import proofs.«01_k».proof.Proof.KernelIdeal.Run
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem xA_eq (c : Dev nD) : xA m ρ c = m ((c : Thread nD τ).loc main_arg0) := by
  funext (i : S4x1024x256.Idx)
  refine congrArg (m ((c : Thread nD τ).loc main_arg0)) (funext fun a => Fin.ext ?_)
  show 0 * S4x1024x256.size a + 1 * (i a).val = (i a).val
  simp only [Nat.zero_mul, Nat.zero_add, Nat.one_mul]
theorem tA_eq (c : Dev nD) : tA m ρ c = m ((c : Thread nD τ).loc main_arg1) := by
  funext (i : S4x128.Idx)
  refine congrArg (m ((c : Thread nD τ).loc main_arg1)) (funext fun a => Fin.ext ?_)
  show 0 * S4x128.size a + 1 * (i a).val = (i a).val
  simp only [Nat.zero_mul, Nat.zero_add, Nat.one_mul]
theorem gA_eq (c : Dev nD) : gA m ρ c = m ((c : Thread nD τ).loc main_arg2) := by
  funext (i : S128x256.Idx)
  refine congrArg (m ((c : Thread nD τ).loc main_arg2)) (funext fun a => Fin.ext ?_)
  show 0 * S128x256.size a + 1 * (i a).val = (i a).val
  simp only [Nat.zero_mul, Nat.zero_add, Nat.one_mul]
theorem hA_eq (c : Dev nD) : hA m ρ c = m ((c : Thread nD τ).loc main_arg3) := by
  funext (i : S128x256.Idx)
  refine congrArg (m ((c : Thread nD τ).loc main_arg3)) (funext fun a => Fin.ext ?_)
  show 0 * S128x256.size a + 1 * (i a).val = (i a).val
  simp only [Nat.zero_mul, Nat.zero_add, Nat.one_mul]

/-- Every element of the result array lies in the one block written back, at its own place. -/
theorem out_place (i : S4x1024x256.Idx) : ((cfg0.win 4).blk t0_0).view.emb i = i := by
  refine funext fun (a : Fin 3) => Fin.ext ?_
  show 0 * S4x1024x256.size a + 1 * (i a).val = (i a).val
  simp only [Nat.zero_mul, Nat.zero_add, Nat.one_mul]

theorem out_flushed (c : Dev nD) (t : Fin cfg0.N) :
    (dats m ρ 0 c).flushed 4 t = ((cfg0.win 4).blk t).view.read (Elt F) (outAt m ρ c) := by
  obtain rfl := fin_N0 t
  have ha : (dats m ρ 0 c).after 4 t0_0 = outAt m ρ c := by dsimp only [dats]
  unfold Pipeline.Dat.flushed
  rw [ha]
  funext (i : S4x1024x256.Idx)
  rw [View.read_apply, out_place]
  rfl

/-- The result array ends holding the kernel's result. -/
theorem result_eq (c : Dev nD) : finalA m ρ c (4 : Fin 5) = outAt m ρ c :=
  (dats m ρ 0 c).arrAt_eq_of_cover 4 (outAt m ρ c) (fun t _ => out_flushed m ρ c t) fun (i : S4x1024x256.Idx) =>
    ⟨t0_0, flush0_4 _, by
      have h := ((cfg0.win 4).blk t0_0).view.emb_mem_set i
      rw [out_place] at h
      exact h⟩

/-- The run, with the result and the arguments named: every counter ends at zero. -/
theorem run_values : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨(h.1 c 4).trans (result_eq m ρ c), (h.1 c 0).trans (kept m ρ c 0 rfl), (h.1 c 1).trans (kept m ρ c 1 rfl),
    (h.1 c 2).trans (kept m ρ c 2 rfl), (h.1 c 3).trans (kept m ρ c 3 rfl)⟩, h.2⟩) (run_main m ρ)

end Cert.KernelIdeal.Exchange

end
-- ==== Proof.Numbers.lean ====
/-
# Two ways of normalising a row

The reference subtracts a row's mean and divides by the square root of the row's variance, computed from the
differences to the mean. The kernel works from two sums, the row's elements and their squares, and multiplies by a
reciprocal square root. On a row of finite numbers the two are the same number.
-/
module

public import Idealize.ShloMosaic.PureOps.Ideal
public import Idealize.ShloMosaic.PureOps.Ideal.Laws
public import Idealize.ShloMosaic.Lib.IdealHost
public import Idealize.ShloMosaic.Lib.KernelVsHost
public import Mathlib.Tactic.Ring
public import Mathlib.Tactic.FieldSimp
public import Mathlib.Tactic.Linarith
public import Mathlib.Tactic.Positivity

@[expose] public section

noncomputable section

namespace Cert.Numbers

open Idealize.ShloMosaic
open scoped BigOperators

/-- The length of a row, one over it, and the small number added to a variance, as the programs write them. -/
def len : EReal := Ideal.ofBits .f32 0x44800000#32
def invLen : EReal := Ideal.ofBits .f32 0x3A800000#32
def eps : EReal := Ideal.ofBits .f32 0x3727C5AC#32

/-- The row length less the integer zero, by which the reference divides the sum of squared differences. -/
def lenLess : EReal := len - FloatOps.sitofp (F := Ideal) .f32 (0#32 : BitVec 32)

/-- An entry of the product of a 4×128 and a 128×`n` matrix. -/
def product {n : ℕ} (t : (⟨2, ![4, 128]⟩ : Shape).Idx → EReal) (W : (⟨2, ![128, n]⟩ : Shape).Idx → EReal) (b : Fin 4) (l : Fin n) : EReal :=
  ∑ k : Fin 128, t (ValueIdx.ix2 b k) * W (ValueIdx.ix2 k l)

/-- The reference's element: `X` is its row, `i` its place there, `g` and `h` the two products' entries. -/
def fromRow (X : Fin 1024 → EReal) (i : Fin 1024) (g h : EReal) : EReal :=
  Ideal.div (X i - Ideal.div (∑ k, X k) len)
    (Ideal.sqrt ((if 0 < lenLess then
        Ideal.div (∑ k, (X k - Ideal.div (∑ j, X j) len) * (X k - Ideal.div (∑ j, X j) len)) lenLess
      else Ideal.ofBits .f32 0x7FC00000#32) + eps)) * (1 + g) + h

/-- The kernel's element: `S` and `Q` are the row's sum and sum of squares, `x` the input's element. -/
def fromSums (S Q x g h : EReal) : EReal :=
  (x - S * invLen) * Ideal.rsqrt (Q * invLen - (S * invLen) * (S * invLen) + eps) * (1 + g) + h

theorem len_eq : len = ((1024 : ℝ) : EReal) := by
  unfold len
  simp [Ideal.ofBits, Ideal.ieee, -EReal.coe_mul]; norm_num

theorem invLen_eq : invLen = ((1 / 1024 : ℝ) : EReal) := by
  unfold invLen
  simp [Ideal.ofBits, Ideal.ieee, -EReal.coe_mul]; norm_num

theorem eps_eq : ∃ e : ℝ, 0 < e ∧ eps = (e : EReal) := by
  refine ⟨(2 ^ 23 + 2606508 : ℝ) * (2 : ℝ) ^ (-40 : ℤ), by positivity, ?_⟩
  unfold eps
  simp [Ideal.ofBits, Ideal.ieee, -EReal.coe_mul]; norm_num

theorem lenLess_eq : lenLess = ((1024 : ℝ) : EReal) := by
  unfold lenLess
  rw [len_eq]
  show ((1024 : ℝ) : EReal) - ((((0#32 : BitVec 32).toInt : ℤ) : ℝ) : EReal) = _
  simp

theorem lenLess_pos : (0 : EReal) < lenLess := by
  rw [lenLess_eq]; exact_mod_cast (by norm_num : (0 : ℝ) < 1024)

/-- A finite sum of real numbers, read among the extended reals. -/
theorem sum_coe {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f Finset.univ).symm

/-- The mean of the squared differences to the mean is the mean square less the squared mean. -/
theorem variance_eq (X : Fin 1024 → ℝ) :
    (∑ k, (X k - (∑ j, X j) * (1 / 1024)) * (X k - (∑ j, X j) * (1 / 1024))) * (1 / 1024)
      = (∑ k, X k * X k) * (1 / 1024) - ((∑ j, X j) * (1 / 1024)) * ((∑ j, X j) * (1 / 1024)) := by
  generalize hS : ∑ j, X j = S
  have h : ∀ k, (X k - S * (1 / 1024)) * (X k - S * (1 / 1024))
      = X k * X k - (2 * S * (1 / 1024)) * X k + (S * (1 / 1024)) * (S * (1 / 1024)) := fun k => by ring
  rw [Finset.sum_congr rfl fun k _ => h k, Finset.sum_add_distrib, Finset.sum_sub_distrib, ← Finset.mul_sum, hS,
    Finset.sum_const, Finset.card_univ, Fintype.card_fin, nsmul_eq_mul]
  push_cast
  ring

theorem variance_nonneg (X : Fin 1024 → ℝ) (a : ℝ) : 0 ≤ (∑ k, (X k - a) * (X k - a)) * (1 / 1024) :=
  mul_nonneg (Finset.sum_nonneg fun k _ => mul_self_nonneg _) (by norm_num)

/-- Dividing by a square root is multiplying by the reciprocal square root, of a positive number. -/
theorem div_sqrt (x : EReal) {v : ℝ} (h : 0 < v) : Ideal.div x (Ideal.sqrt (v : EReal)) = x * Ideal.rsqrt (v : EReal) := by
  have hs : Real.sqrt v ≠ 0 := (Real.sqrt_pos.mpr h).ne'
  rw [Ideal.sqrt_coe, Ideal.rsqrt_coe, if_neg h.not_gt, if_neg h.not_gt, if_neg h.ne', Ideal.div_coe hs, one_div]

theorem fromRow_eq_fromSums (X : Fin 1024 → EReal) (hX : ∀ k, ∃ r : ℝ, X k = (r : EReal)) (i : Fin 1024) (g h : EReal) :
    fromRow X i g h = fromSums (∑ k, X k) (∑ k, X k * X k) (X i) g h := by
  choose R hR using hX
  obtain rfl : X = fun k => ((R k : ℝ) : EReal) := funext hR
  obtain ⟨e, he, hE⟩ := eps_eq
  have h1024 : (1024 : ℝ) ≠ 0 := by norm_num
  unfold fromRow fromSums
  rw [if_pos lenLess_pos, lenLess_eq, len_eq, invLen_eq, hE]
  simp only [Ideal.div_coe h1024, sum_coe, ← EReal.coe_mul, ← EReal.coe_sub, ← EReal.coe_add]
  rw [variance_eq, div_sqrt]
  rw [← variance_eq]
  exact add_pos_of_nonneg_of_pos (variance_nonneg R _) he

end Cert.Numbers

end
-- ==== Proof.ReferenceIdeal.Value.lean ====
/-
# The reference's result, element by element

The reference runs, its counters are zero (it has none), and its result at one index is written out as sums of products
of extended reals.
-/
module

public import proofs.«01_k».proof.Proof.Gen.ReferenceIdeal.Run
public import proofs.«01_k».proof.Proof.Numbers
public import Idealize.ShloMosaic.Lib.Quiescent
public import Idealize.ShloMosaic.Lib.Pointwise
public import Idealize.ShloMosaic.PureOps.Ideal
public import Idealize.ShloMosaic.PureOps.Ideal.Laws

@[expose] public section

noncomputable section

namespace Cert.ReferenceIdeal.Elements

open Cert.ReferenceIdeal Cert.ReferenceIdeal.Gen

open Idealize.ShloMosaic
open Idealize.ShloMosaic.TcCoe
open Idealize.SL.Sem

variable (m : (ℓ : Loc nD τ sig) → Buf (Elt Ideal) ℓ) (ρ : Dev nD → PrngReg)

/-- The reference leaves its arguments alone, and every counter is zero at the end. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => (h c).2, sem_eq_zero_of_no_sems rfl r.2⟩) (Value.run m ρ)

/-- The reference runs, and its result at batch `b`, row `r`, column `l` is the normalised element times one plus an entry of
the first product plus an entry of the second. -/
theorem value_at : ∃ v0 : S4x1024x1024.Idx → EReal,
    (θ_run defs (onTc (τ := τ) (main (F := Ideal))) ⟨m, fun _ => 0, ρ⟩ fun r =>
      r.2.mem (((0 : Dev nD).tc : Thread nD τ).loc main_v27) = v0
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3))
    ∧ ∀ (b : Fin 4) (r l : Fin 1024), v0 (ix3 b r l)
      = Cert.Numbers.fromRow (fun k => m (((0 : Dev nD).tc : Thread nD τ).loc main_arg0) (ix3 b r k)) l
          (Cert.Numbers.product (m (((0 : Dev nD).tc : Thread nD τ).loc main_arg1)) (m (((0 : Dev nD).tc : Thread nD τ).loc main_arg2)) b l)
          (Cert.Numbers.product (m (((0 : Dev nD).tc : Thread nD τ).loc main_arg1)) (m (((0 : Dev nD).tc : Thread nD τ).loc main_arg3)) b l) := by
  refine ⟨_, (θ_run defs _ _).mono (fun r h => h 0) (Value.run m ρ), fun b r l => ?_⟩
  generalize m (((0 : Dev nD).tc : Thread nD τ).loc main_arg0) = x
  generalize m (((0 : Dev nD).tc : Thread nD τ).loc main_arg1) = t
  generalize m (((0 : Dev nD).tc : Thread nD τ).loc main_arg2) = Ws
  generalize m (((0 : Dev nD).tc : Thread nD τ).loc main_arg3) = Wh
  pointwise
  rfl

end Cert.ReferenceIdeal.Elements

end
-- ==== Proof.KernelIdeal.Value.lean ====
/-
# The kernel's result, element by element

What the kernel leaves at one index of device `c`'s block, read over the extended reals: the statistics are sums over the
device's row, the four devices' statistics add up to those of the whole row, and the result is the normalised element times
one plus an entry of the first product plus an entry of the second.
-/
module

public import proofs.«01_k».proof.Proof.KernelIdeal.Result
public import proofs.«01_k».proof.Proof.Numbers
public import Idealize.ShloMosaic.Lib.Pointwise
public import Idealize.ShloMosaic.PureOps.Ideal
public import Idealize.ShloMosaic.PureOps.Ideal.Laws

@[expose] public section

noncomputable section

namespace Cert.KernelIdeal.Elements

open Cert.KernelIdeal Cert.KernelIdeal.Gen Cert.KernelIdeal.Exchange Cert.Numbers

open Idealize.ShloMosaic
open Idealize.ShloMosaic.TcCoe
open Idealize.SL.Sem

variable (m : (ℓ : Loc nD τ sig) → Buf (Elt Ideal) ℓ) (ρ : Dev nD → PrngReg)

/-- The first four rows of the statistics: sums over a row of the block. -/
theorem sums_at (x : Vec Ideal S4x1024x256 .bf16) (b : Fin 4) (r : Fin 1024) :
    k0_pay2 (F := Ideal) x (ix2 b r) = ∑ j : Fin 256, (x (ix3 b r j) : EReal) := by
  unfold k0_pay2 k0_pay1
  pointwise

/-- The last four: sums of squares. -/
theorem squares_at (x : Vec Ideal S4x1024x256 .bf16) (b : Fin 4) (r : Fin 1024) :
    k0_pay3 (F := Ideal) x (ix2 b r) = ∑ j : Fin 256, (x (ix3 b r j) * x (ix3 b r j) : EReal) := by
  unfold k0_pay3 k0_pay1
  pointwise

theorem scale_at (t : Vec Ideal S4x128 .bf16) (W : Vec Ideal S128x256 .bf16) (b : Fin 4) (j : Fin 256) :
    k0_pay4 (F := Ideal) t W (ix2 b j) = 1 + product t W b j := by
  unfold k0_pay4 product
  pointwise
  rfl

theorem shift_at (t : Vec Ideal S4x128 .bf16) (W : Vec Ideal S128x256 .bf16) (b : Fin 4) (j : Fin 256) :
    k0_pay5 (F := Ideal) t W (ix2 b j) = product t W b j := by
  unfold k0_pay5 product
  pointwise
  rfl

/-- Four statistics of a row added up, in the order the kernel adds them. -/
def total (s : S8x1024.Idx → EReal) (c₀ c₁ c₂ : S1x8x1024.Idx → EReal) (q : Fin 8) (r : Fin 1024) : EReal :=
  s (ix2 q r) + c₀ (ix3 (0 : Fin 1) q r) + c₁ (ix3 (0 : Fin 1) q r) + c₂ (ix3 (0 : Fin 1) q r)

abbrev lo (b : Fin 4) : Fin 8 := ⟨b.val, by omega⟩
abbrev hi (b : Fin 4) : Fin 8 := ⟨4 + b.val, by omega⟩

theorem out_at (t : Vec Ideal S4x128 .bf16) (Ws Wh : Vec Ideal S128x256 .bf16) (x : Vec Ideal S4x1024x256 .bf16)
    (s : Vec Ideal S8x1024 .f32) (c₀ c₁ c₂ : Vec Ideal S1x8x1024 .f32) (b : Fin 4) (r : Fin 1024) (j : Fin 256) :
    k0_pay7 (F := Ideal) (k0_pay4 t Ws) (k0_pay5 t Wh) (k0_pay6 (k0_pay1 x)) s c₀ c₁ c₂ (ix3 b r j)
      = fromSums (total s c₀ c₁ c₂ (lo b) r) (total s c₀ c₁ c₂ (hi b) r) (x (ix3 b r j)) (product t Ws b j) (product t Wh b j) := by
  have hx : k0_pay6 (F := Ideal) (k0_pay1 x) (ix3 b r j) = x (ix3 b r j) := by unfold k0_pay6 k0_pay1; pointwise
  rw [← hx]
  unfold fromSums
  rw [← scale_at, ← shift_at]
  generalize k0_pay6 (F := Ideal) (k0_pay1 x) = x'
  generalize k0_pay4 (F := Ideal) t Ws = g
  generalize k0_pay5 (F := Ideal) t Wh = h
  unfold k0_pay7
  pointwise
  rfl

/-- Device `c`'s block and its statistics, and what it reads of slot `k`, as extended reals. -/
abbrev block (c : Dev nD) : S4x1024x256.Idx → EReal := xA m ρ c
abbrev own (c : Dev nD) : S8x1024.Idx → EReal := stats m ρ c
abbrev read (k : Fin 3) (c' : Dev nD) : S1x8x1024.Idx → EReal := slotRead m ρ k c'

/-- What the kernel reads of slot `k` is the statistics that landed there. -/
theorem slot_at (k : Fin 3) (c' : Dev nD) (q : Fin 8) (r : Fin 1024) : read m ρ k c' (ix3 (0 : Fin 1) q r) = own m ρ c' (ix2 q r) := by
  have h : shapeCast S8x1024 (read m ρ k c') shapeCasts_S1x8x1024_S8x1024 = own m ρ c' :=
    (Memref.read_squeeze_slice (Val := Elt Ideal) lM (slotRect k) (fun _ => rfl) squeezes_S1x8x1024_S8x1024 shapeCasts_S1x8x1024_S8x1024
      (landed m ρ k c')).symm.trans (View.read_write_univ (v := (slot k).view) _ (stats m ρ c'))
  rw [← h]
  pointwise

/-- The statistics of a device at one row, from its block. -/
theorem stats_lo (c : Dev nD) (b : Fin 4) (r : Fin 1024) : own m ρ c (ix2 (lo b) r) = ∑ j : Fin 256, block m ρ c (ix3 b r j) := by
  have h : (lo b).val < 4 := b.isLt
  exact (dif_pos h).trans (sums_at (xA m ρ c) b r)

theorem stats_hi (c : Dev nD) (b : Fin 4) (r : Fin 1024) :
    own m ρ c (ix2 (hi b) r) = ∑ j : Fin 256, block m ρ c (ix3 b r j) * block m ρ c (ix3 b r j) := by
  have h : ¬ (hi b).val < 4 := by show ¬ 4 + b.val < 4; omega
  refine (dif_neg h).trans ((congrArg (k0_pay3 (F := Ideal) (xA m ρ c)) ?_).trans (squares_at (xA m ρ c) b r))
  funext a; fin_cases a
  · exact Fin.ext (Nat.add_sub_cancel_left 4 b.val)
  · rfl

/-- A device's own number and the three others', added in the order the kernel adds them, are all four. -/
theorem sum_devices (P : Dev nD → EReal) (c : Dev nD) :
    P c + P (ahead (opp 0) c) + P (ahead (opp 1) c) + P (ahead (opp 2) c) = ∑ d : Fin 4, P d := by
  rw [Fin.sum_univ_four]
  fin_cases c
  · show P 0 + P 3 + P 2 + P 1 = _
    ac_rfl
  · show P 1 + P 0 + P 3 + P 2 = _
    ac_rfl
  · show P 2 + P 1 + P 0 + P 3 = _
    ac_rfl
  · show P 3 + P 2 + P 1 + P 0 = _
    ac_rfl

/-- Column `j` of device `c`'s block, among the columns of the whole array. -/
def col (c : Fin 4) (j : Fin 256) : Fin 1024 := ⟨c.val * 256 + j.val, by omega⟩

/-- A sum along a whole row, block by block. -/
theorem sum_blocks (f : Fin 1024 → EReal) : ∑ d : Fin 4, ∑ j : Fin 256, f (col d j) = ∑ k, f k := by
  rw [← Fintype.sum_prod_type']
  refine Fintype.sum_equiv (finProdFinEquiv (m := 4) (n := 256)) _ _ fun p => congrArg f (Fin.ext ?_)
  show p.1.val * 256 + p.2.val = p.2.val + 256 * p.1.val
  omega

/-- The kernel's element, when the blocks are those of a whole array `X`: the two sums are over the whole row. -/
theorem outAt_at (X : Fin 4 → Fin 1024 → Fin 1024 → EReal)
    (hX : ∀ (c : Dev nD) b r j, m ((c : Thread nD τ).loc main_arg0) (ix3 b r j) = X b r (col c j))
    (c : Dev nD) (b : Fin 4) (r : Fin 1024) (j : Fin 256) :
    outAt m ρ c (ix3 b r j)
      = fromSums (∑ k, X b r k) (∑ k, X b r k * X b r k) (X b r (col c j))
          (product (m ((c : Thread nD τ).loc main_arg1)) (m ((c : Thread nD τ).loc main_arg2)) b j)
          (product (m ((c : Thread nD τ).loc main_arg1)) (m ((c : Thread nD τ).loc main_arg3)) b j) := by
  have hB : ∀ (d : Dev nD) (j : Fin 256), block m ρ d (ix3 b r j) = X b r (col d j) := fun d j =>
    (congrFun (xA_eq m ρ d) (ix3 b r j)).trans (hX d b r j)
  have hS : ∀ d : Dev nD, own m ρ d (ix2 (lo b) r) = ∑ j : Fin 256, X b r (col d j) := fun d => by
    rw [stats_lo]; exact Finset.sum_congr rfl fun j _ => hB d j
  have hQ : ∀ d : Dev nD, own m ρ d (ix2 (hi b) r) = ∑ j : Fin 256, X b r (col d j) * X b r (col d j) := fun d => by
    rw [stats_hi]; exact Finset.sum_congr rfl fun j _ => by rw [hB d j]
  have hlo : total (own m ρ c) (read m ρ 0 (ahead (opp 0) c)) (read m ρ 1 (ahead (opp 1) c)) (read m ρ 2 (ahead (opp 2) c)) (lo b) r = ∑ k, X b r k := by
    unfold total
    rw [slot_at, slot_at, slot_at, sum_devices (fun d => own m ρ d (ix2 (lo b) r)) c, ← sum_blocks]
    exact Finset.sum_congr rfl fun d _ => hS d
  have hhi : total (own m ρ c) (read m ρ 0 (ahead (opp 0) c)) (read m ρ 1 (ahead (opp 1) c)) (read m ρ 2 (ahead (opp 2) c)) (hi b) r
      = ∑ k, X b r k * X b r k := by
    unfold total
    rw [slot_at, slot_at, slot_at, sum_devices (fun d => own m ρ d (ix2 (hi b) r)) c, ← sum_blocks (fun k => X b r k * X b r k)]
    exact Finset.sum_congr rfl fun d _ => hQ d
  refine (out_at _ _ _ _ _ _ _ _ b r j).trans ?_
  rw [← hlo, ← hhi, ← hB c j, ← tA_eq m ρ c, ← gA_eq m ρ c, ← hA_eq m ρ c]

end Cert.KernelIdeal.Elements

end
-- ==== Proof.Algebraic.lean ====
/-
# The kernel's blocks are the reference's blocks

From memories that agree, with every element of `x` finite, the kernel on four devices and the reference on one both run,
and each device's result is its block of the reference's.
-/
module

public import proofs.«01_k».proof.Defs
public import proofs.«01_k».proof.Proof.KernelIdeal.Value
public import proofs.«01_k».proof.Proof.ReferenceIdeal.Value

@[expose] public section

noncomputable section

namespace Cert.Algebraic

open Idealize.ShloMosaic Idealize.SL.Sem
open Cert.Numbers
open Cert.KernelIdeal.Elements (col)

/-- A number whose absolute value is below infinity is a real one. -/
theorem finite_of_abs {x : EReal} (h : max x (-x) < ⊤) : ∃ r : ℝ, x = (r : EReal) := by
  induction x with
  | bot => simp at h
  | top => simp at h
  | coe r => exact ⟨r, rfl⟩

theorem infinity : Ideal.ofBits .bf16 0x7F80#16 = ⊤ := by
  simp [Ideal.ofBits, Ideal.ieee]

/-- The precondition, read at one element of a device's block. -/
theorem finite_at [hP : Cert.Pre_finite_x_KernelIdeal.Facts] (x : FVec Ideal Cert.Pre_finite_x_KernelIdeal.S4x1024x256 .bf16)
    (t : FVec Ideal Cert.Pre_finite_x_KernelIdeal.S4x128 .bf16) (Ws Wh : FVec Ideal Cert.Pre_finite_x_KernelIdeal.S128x256 .bf16)
    (h : Cert.Pre_finite_x_KernelIdeal.fn (F := Ideal) x t Ws Wh = fun _ => 1#1) (i : Cert.Pre_finite_x_KernelIdeal.S4x1024x256.Idx) :
    ∃ r : ℝ, (x i : EReal) = (r : EReal) := by
  have hi : BitVec.ofBool (decide (max (x i : EReal) (-(x i : EReal)) < Ideal.ofBits .bf16 0x7F80#16)) = 1#1 := congrFun h i
  rw [infinity] at hi
  refine finite_of_abs ?_
  by_contra hn
  rw [decide_eq_false hn] at hi
  exact absurd hi (by decide)

/-- Every column of the whole array is a column of some device's block. -/
theorem col_surj (k : Fin 1024) : ∃ (d : Fin 4) (j : Fin 256), k = col d j :=
  ⟨⟨k.val / 256, by omega⟩, ⟨k.val % 256, by omega⟩, Fin.ext (by show k.val = k.val / 256 * 256 + k.val % 256; omega)⟩

/-- A block of an array cut along its last axis of three, read at an index. -/
theorem block3_at {α : Type} (v : (⟨3, ![4, 1024, 1024]⟩ : Shape).Idx → α) (c : Fin 4) (b : Fin 4) (r : Fin 1024) (j : Fin 256) :
    Layout.block ⟨3, ![4, 1024, 256]⟩ ⟨3, ![4, 1024, 1024]⟩ 2 4 c v (by decide) (ix3 b r j) = v (ix3 b r (col c j)) := by
  rw [Layout.block_apply]
  refine congrArg v (funext fun a => Fin.ext ?_)
  fin_cases a <;> rfl

/-- A block of a matrix cut along its columns, read at an index. -/
theorem block2_at {α : Type} (v : (⟨2, ![128, 1024]⟩ : Shape).Idx → α) (c : Fin 4) (k : Fin 128) (j : Fin 256) :
    Layout.block ⟨2, ![128, 256]⟩ ⟨2, ![128, 1024]⟩ 1 4 c v (by decide) (ix2 k j) = v (ix2 k (col c j)) := by
  rw [Layout.block_apply]
  refine congrArg v (funext fun a => Fin.ext ?_)
  fin_cases a <;> rfl

/-- An entry of the product with a block of columns is an entry of the product with the whole matrix. -/
theorem product_block (t : (⟨2, ![4, 128]⟩ : Shape).Idx → EReal) (W : (⟨2, ![128, 1024]⟩ : Shape).Idx → EReal) (c b : Fin 4) (j : Fin 256) :
    product t (Layout.block ⟨2, ![128, 256]⟩ ⟨2, ![128, 1024]⟩ 1 4 c W (by decide)) b j = product t W b (col c j) :=
  Finset.sum_congr rfl fun k _ => congrArg (t (ValueIdx.ix2 b k) * ·) (block2_at W c k j)

theorem algebraic [hP : Cert.Pre_finite_x_KernelIdeal.Facts] :
    algebraic_KernelIdeal_ReferenceIdeal_pre_finite_x_KernelIdeal (hKernelIdeal := Cert.KernelIdeal.Gen.facts)
      (hReferenceIdeal := Cert.ReferenceIdeal.Gen.facts) := by
  intro m g m' g' hpre hag
  obtain ⟨v0, hrun, hv⟩ := Cert.ReferenceIdeal.Elements.value_at m' g'
  refine ⟨v0, (θ_run _ _ _).mono (fun r h c => ?_) (Cert.KernelIdeal.Exchange.run_values m g), hrun⟩
  refine ⟨(h.1 c).1.trans ?_, (h.1 c).2⟩
  have hX : ∀ (d : Dev Cert.KernelIdeal.nD) b r j, m ((d.tc : Thread Cert.KernelIdeal.nD Cert.KernelIdeal.τ).loc Cert.KernelIdeal.main_arg0) (ix3 b r j)
      = m' (((0 : Dev Cert.ReferenceIdeal.nD).tc : Thread Cert.ReferenceIdeal.nD Cert.ReferenceIdeal.τ).loc Cert.ReferenceIdeal.main_arg0) (ix3 b r (col d j)) :=
    fun d b r j => (congrFun (hag d).1 (ix3 b r j)).trans (block3_at _ d b r j)
  funext (i : (⟨3, ![4, 1024, 256]⟩ : Shape).Idx)
  obtain ⟨b, r, j, rfl⟩ : ∃ (b : Fin 4) (r : Fin 1024) (j : Fin 256), i = ix3 b r j := ⟨i 0, i 1, i 2, eq_ix3 i⟩
  refine (Cert.KernelIdeal.Elements.outAt_at m g (fun b r k => m' (((0 : Dev Cert.ReferenceIdeal.nD).tc :
    Thread Cert.ReferenceIdeal.nD Cert.ReferenceIdeal.τ).loc Cert.ReferenceIdeal.main_arg0) (ix3 b r k)) hX c b r j).trans ?_
  refine Eq.trans ?_ (block3_at v0 c b r j).symm
  rw [hv, fromRow_eq_fromSums, (hag c).2.1, (hag c).2.2.1, (hag c).2.2.2]
  · exact congrArg₂ (fromSums _ _ _) (product_block _ _ c b j) (product_block _ _ c b j)
  · intro k
    obtain ⟨d, j', rfl⟩ := col_surj k
    obtain ⟨x, hx⟩ := finite_at _ _ _ _ (hpre d) (ix3 b r j')
    exact ⟨x, (hX d b r j').symm.trans hx⟩

end Cert.Algebraic

end
-- ==== Proof.lean ====
module

public import proofs.«01_k».proof.Defs
public import proofs.«01_k».proof.Proof.Kernel.Result
public import proofs.«01_k».proof.Proof.KernelIdeal.Result
public import proofs.«01_k».proof.Proof.ReferenceIdeal.Value
public import proofs.«01_k».proof.Proof.Algebraic

@[expose] public section

noncomputable section

namespace Cert.Proof

open Idealize.ShloMosaic Idealize.SL.Sem

/-- The side conditions the precondition states, at the kernel's shapes and at the reference's. -/
theorem preKernel : Cert.Pre_finite_x_KernelIdeal.Facts := ⟨by decide⟩
theorem preReference : Cert.Pre_finite_x_ReferenceIdeal.Facts := ⟨by decide⟩

theorem quiescent_kernel : quiescent_Kernel (hKernel := Cert.Kernel.Gen.facts) := fun m g _ =>
  (θ_run _ _ _).mono (fun _ h => ⟨fun c => (h.1 c).2, h.2⟩) (Cert.Kernel.Exchange.run_values m g)

theorem quiescent_kernelIdeal : quiescent_KernelIdeal (hKernelIdeal := Cert.KernelIdeal.Gen.facts) := fun m g _ =>
  (θ_run _ _ _).mono (fun _ h => ⟨fun c => (h.1 c).2, h.2⟩) (Cert.KernelIdeal.Exchange.run_values m g)

theorem quiescent_referenceIdeal : quiescent_ReferenceIdeal (hReferenceIdeal := Cert.ReferenceIdeal.Gen.facts) := fun m g _ =>
  Cert.ReferenceIdeal.Elements.frame m g

theorem claim : Cert.Claim :=
  ⟨Cert.Kernel.Gen.facts, Cert.KernelIdeal.Gen.facts, Cert.ReferenceIdeal.Gen.facts, preKernel, preReference,
    quiescent_kernel, quiescent_kernelIdeal, fun m g _ => quiescent_kernelIdeal m g trivial, quiescent_referenceIdeal,
    fun m g _ => quiescent_referenceIdeal m g trivial, trivial, Cert.Algebraic.algebraic (hP := preKernel)⟩

end Cert.Proof

end
